-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v5) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v6) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v5) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v6) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v3) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v5) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v6) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v3) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v4) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v5) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v3) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v5) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v6) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
-- ==== Pre_finite.lean ====
abbrev S4096x1024 : Shape := ⟨2, ![4096, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)

variable [Facts]

def fn {F : FTy → Type} [FloatOps F] (main_arg0 : FVec F S4096x1024 .bf16) (main_arg1 : FVec F S4096x1024 .bf16) (main_arg2 : FVec F S4096x1024 .bf16) (main_arg3 : FVec F S4096x1024 .bf16) : IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  let main_v12 : FVec F S4096x1024 .f32 := (extf .f32 · bitsLt_bf16_f32) main_arg3
  let main_v13 : FVec F S4096x1024 .f32 := Host.absf main_v12
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  let main_v16 : IVec S4096x1024 1 := andi main_v3 main_v7
  let main_v17 : IVec S4096x1024 1 := andi main_v16 main_v11
  let main_v18 : IVec S4096x1024 1 := andi main_v17 main_v15
  main_v18
-- ==== Kernel.lean ====
abbrev S4096x1024 : Shape := ⟨2, ![4096, 1024]⟩
abbrev S_ : Shape := ⟨0, ![]⟩
abbrev S4096x8x128 : Shape := ⟨3, ![4096, 8, 128]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x128 : Shape := ⟨3, ![8, 4096, 128]⟩
abbrev S4096x128 : Shape := ⟨2, ![4096, 128]⟩
abbrev S512x128 : Shape := ⟨2, ![512, 128]⟩
abbrev S512 : Shape := ⟨1, ![512]⟩
abbrev S512x1 : Shape := ⟨2, ![512, 1]⟩
abbrev S512x512 : Shape := ⟨2, ![512, 512]⟩

abbrev nBuf : Space → Nat
  | .hbm => 63
  | .vmem => 19
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x1024, .f32⟩
  | .hbm, ⟨9, _⟩ => ⟨S4096x8x128, .f32⟩
  | .hbm, ⟨10, _⟩ => ⟨S4096x1024, .f32⟩
  | .hbm, ⟨11, _⟩ => ⟨S4096x8x128, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S8x4096x4096, .i1⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x4096, .f32⟩
  | .hbm, ⟨36, _⟩ => ⟨S8x4096x4096, .f32⟩
  | .hbm, ⟨37, _⟩ => ⟨S4096x1024, .f32⟩
  | .hbm, ⟨38, _⟩ => ⟨S4096x8x128, .f32⟩
  | .hbm, ⟨39, _⟩ => ⟨S8x128x4096, .f32⟩
  | .hbm, ⟨40, _⟩ => ⟨S4096x8x128, .f32⟩
  | .hbm, ⟨41, _⟩ => ⟨S4096x1024, .f32⟩
  | .hbm, ⟨42, _⟩ => ⟨S4096x1024, .bf16⟩
  | .hbm, ⟨43, _⟩ => ⟨S8x4096x1, .f32⟩
  | .hbm, ⟨44, _⟩ => ⟨S8x4096x1, .f32⟩
  | .hbm, ⟨45, _⟩ => ⟨S8x4096x1, .f32⟩
  | .hbm, ⟨46, _⟩ => ⟨S8x4096x1, .f32⟩
  | .hbm, ⟨47, _⟩ => ⟨S8x4096x128, .f32⟩
  | .hbm, ⟨48, _⟩ => ⟨S4096x8x128, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S4096x1024, .bf16⟩
  | .hbm, ⟨56, _⟩ => ⟨S4096x1024, .bf16⟩
  | .hbm, ⟨57, _⟩ => ⟨S4096x1024, .bf16⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S4096x1024, .bf16⟩
  | .local _ .vmem, ⟨0, _⟩ => ⟨S4096x128, .bf16⟩
  | .local _ .vmem, ⟨1, _⟩ => ⟨S4096x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S4096x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S4096x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43_0 : Ref sig .tc := ⟨.hbm, 55, rfl⟩
abbrev main_v43_1 : Ref sig .tc := ⟨.hbm, 56, rfl⟩
abbrev main_v43_2 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v6 : BitVec 32 := Scalar.muli arg1 c512_i32
  v6
def k0_off1 (i : grid0.Coords) : Fin 2 → Nat :=
  let arg1 : BitVec 32 := BitVec.ofNat 32 (i 1).val
  let c512_i32 : BitVec 32 := 512#32
  let v6 : BitVec 32 := Scalar.muli arg1 c512_i32
  let v7 : BitVec 32 := v6
  let v8 : Index := Scalar.indexCast v7
  let c0_4 : Index := 0#32
  ![v8.toNat, 0]
def k0_off2 (i : grid0.Coords) : Fin 2 → Nat :=
  let arg1 : BitVec 32 := BitVec.ofNat 32 (i 1).val
  let c512_i32 : BitVec 32 := 512#32
  let v6 : BitVec 32 := Scalar.muli arg1 c512_i32
  let v7 : BitVec 32 := v6
  let v27 : Index := Scalar.indexCast v7
  let c0_10 : Index := 0#32
  ![v27.toNat, 0]
@[reducible] def k0_t1_loop (i : grid0.Coords) : Scf.Loop 32 :=
  let arg1 : BitVec 32 := BitVec.ofNat 32 (i 1).val
  let c1_i32 : BitVec 32 := 1#32
  let v52 : BitVec 32 := Scalar.addi arg1 c1_i32
  let c8_i32 : BitVec 32 := 8#32
  let v53 : BitVec 32 := Scalar.subi c8_i32 v52
  let c1_i32_17 : BitVec 32 := 1#32
  let v55 : BitVec 32 := Scalar.divsi v53 c1_i32_17
  let v56 : BitVec 32 := Scalar.muli v55 c1_i32_17
  let v57 : BitVec 32 := Scalar.addi v52 v56
  let c1_i32_18 : BitVec 32 := 1#32
  ⟨v52, v57, c1_i32_18⟩
def k0_mult2 (i : grid0.Coords) (k0_t1 : Fin (k0_t1_loop i).trips) : BitVec 32 :=
  let arg1 : BitVec 32 := BitVec.ofNat 32 (i 1).val
  let c1_i32 : BitVec 32 := 1#32
  let v52 : BitVec 32 := Scalar.addi arg1 c1_i32
  let c1_i32_18 : BitVec 32 := 1#32
  let arg12 : BitVec 32 := Scf.iv v52 c1_i32_18 k0_t1
  let c512_i32_26 : BitVec 32 := 512#32
  let v69 : BitVec 32 := Scalar.muli arg12 c512_i32_26
  v69
def k0_off3 (i : grid0.Coords) (k0_t1 : Fin (k0_t1_loop i).trips) : Fin 2 → Nat :=
  let arg1 : BitVec 32 := BitVec.ofNat 32 (i 1).val
  let c1_i32 : BitVec 32 := 1#32
  let v52 : BitVec 32 := Scalar.addi arg1 c1_i32
  let c1_i32_18 : BitVec 32 := 1#32
  let arg12 : BitVec 32 := Scf.iv v52 c1_i32_18 k0_t1
  let c512_i32_26 : BitVec 32 := 512#32
  let v69 : BitVec 32 := Scalar.muli arg12 c512_i32_26
  let v70 : BitVec 32 := v69
  let v71 : Index := Scalar.indexCast v70
  let c0_27 : Index := 0#32
  ![v71.toNat, 0]
def k0_off4 (i : grid0.Coords) (k0_t1 : Fin (k0_t1_loop i).trips) : Fin 2 → Nat :=
  let arg1 : BitVec 32 := BitVec.ofNat 32 (i 1).val
  let c1_i32 : BitVec 32 := 1#32
  let v52 : BitVec 32 := Scalar.addi arg1 c1_i32
  let c1_i32_18 : BitVec 32 := 1#32
  let arg12 : BitVec 32 := Scf.iv v52 c1_i32_18 k0_t1
  let c512_i32_26 : BitVec 32 := 512#32
  let v69 : BitVec 32 := Scalar.muli arg12 c512_i32_26
  let v70 : BitVec 32 := v69
  let v85 : Index := Scalar.indexCast v70
  let c0_32 : Index := 0#32
  ![v85.toNat, 0]
@[reducible] def k0_t2_loop (i : grid0.Coords) : Scf.Loop 32 :=
  let arg1 : BitVec 32 := BitVec.ofNat 32 (i 1).val
  let c1_i32 : BitVec 32 := 1#32
  let v52 : BitVec 32 := Scalar.addi arg1 c1_i32
  let c8_i32 : BitVec 32 := 8#32
  let v53 : BitVec 32 := Scalar.subi c8_i32 v52
  let c1_i32_17 : BitVec 32 := 1#32
  let v55 : BitVec 32 := Scalar.divsi v53 c1_i32_17
  let v56 : BitVec 32 := Scalar.muli v55 c1_i32_17
  let v57 : BitVec 32 := Scalar.addi v52 v56
  let v54 : BitVec 32 := Scalar.addi v52 v53
  let c1_i32_19 : BitVec 32 := 1#32
  ⟨v57, v54, c1_i32_19⟩
def k0_mult3 (i : grid0.Coords) (k0_t2 : Fin (k0_t2_loop i).trips) : BitVec 32 :=
  let arg1 : BitVec 32 := BitVec.ofNat 32 (i 1).val
  let c1_i32 : BitVec 32 := 1#32
  let v52 : BitVec 32 := Scalar.addi arg1 c1_i32
  let c8_i32 : BitVec 32 := 8#32
  let v53 : BitVec 32 := Scalar.subi c8_i32 v52
  let c1_i32_17 : BitVec 32 := 1#32
  let v55 : BitVec 32 := Scalar.divsi v53 c1_i32_17
  let v56 : BitVec 32 := Scalar.muli v55 c1_i32_17
  let v57 : BitVec 32 := Scalar.addi v52 v56
  let c1_i32_19 : BitVec 32 := 1#32
  let arg12 : BitVec 32 := Scf.iv v57 c1_i32_19 k0_t2
  let c512_i32_26 : BitVec 32 := 512#32
  let v69 : BitVec 32 := Scalar.muli arg12 c512_i32_26
  v69
def k0_off5 (i : grid0.Coords) (k0_t2 : Fin (k0_t2_loop i).trips) : Fin 2 → Nat :=
  let arg1 : BitVec 32 := BitVec.ofNat 32 (i 1).val
  let c1_i32 : BitVec 32 := 1#32
  let v52 : BitVec 32 := Scalar.addi arg1 c1_i32
  let c8_i32 : BitVec 32 := 8#32
  let v53 : BitVec 32 := Scalar.subi c8_i32 v52
  let c1_i32_17 : BitVec 32 := 1#32
  let v55 : BitVec 32 := Scalar.divsi v53 c1_i32_17
  let v56 : BitVec 32 := Scalar.muli v55 c1_i32_17
  let v57 : BitVec 32 := Scalar.addi v52 v56
  let c1_i32_19 : BitVec 32 := 1#32
  let arg12 : BitVec 32 := Scf.iv v57 c1_i32_19 k0_t2
  let c512_i32_26 : BitVec 32 := 512#32
  let v69 : BitVec 32 := Scalar.muli arg12 c512_i32_26
  let v70 : BitVec 32 := v69
  let v71 : Index := Scalar.indexCast v70
  let c0_27 : Index := 0#32
  ![v71.toNat, 0]
def k0_off6 (i : grid0.Coords) (k0_t2 : Fin (k0_t2_loop i).trips) : Fin 2 → Nat :=
  let arg1 : BitVec 32 := BitVec.ofNat 32 (i 1).val
  let c1_i32 : BitVec 32 := 1#32
  let v52 : BitVec 32 := Scalar.addi arg1 c1_i32
  let c8_i32 : BitVec 32 := 8#32
  let v53 : BitVec 32 := Scalar.subi c8_i32 v52
  let c1_i32_17 : BitVec 32 := 1#32
  let v55 : BitVec 32 := Scalar.divsi v53 c1_i32_17
  let v56 : BitVec 32 := Scalar.muli v55 c1_i32_17
  let v57 : BitVec 32 := Scalar.addi v52 v56
  let c1_i32_19 : BitVec 32 := 1#32
  let arg12 : BitVec 32 := Scf.iv v57 c1_i32_19 k0_t2
  let c512_i32_26 : BitVec 32 := 512#32
  let v69 : BitVec 32 := Scalar.muli arg12 c512_i32_26
  let v70 : BitVec 32 := v69
  let v85 : Index := Scalar.indexCast v70
  let c0_32 : Index := 0#32
  ![v85.toNat, 0]
def k0_cond2 (i : grid0.Coords) : BitVec 1 :=
  let arg1 : BitVec 32 := BitVec.ofNat 32 (i 1).val
  let c7_i32 : BitVec 32 := 7#32
  let v66 : BitVec 1 := Scalar.cmpi .eq arg1 c7_i32
  let v67 : BitVec 32 := Scalar.extui v66
  let c0_i32_25 : BitVec 32 := 0#32
  let v68 : BitVec 1 := Scalar.cmpi .ne v67 c0_i32_25
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x128 : Shape := ⟨3, ![8, 4096, 128]⟩

abbrev nBuf : Space → Nat
  | .hbm => 103
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x8x128, .f32⟩
  | .hbm, ⟨6, _⟩ => ⟨S4096x1024, .f32⟩
  | .hbm, ⟨7, _⟩ => ⟨S4096x8x128, .f32⟩
  | .hbm, ⟨8, _⟩ => ⟨S4096x1024, .f32⟩
  | .hbm, ⟨9, _⟩ => ⟨S4096x8x128, .f32⟩
  | .hbm, ⟨10, _⟩ => ⟨S8x4096x4096, .f32⟩
  | .hbm, ⟨11, _⟩ => ⟨S_, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S8x4096x4096, .i1⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .i1⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S_, .f32⟩
  | .hbm, ⟨37, _⟩ => ⟨S8x4096, .f32⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S8x4096, .i1⟩
  | .hbm, ⟨42, _⟩ => ⟨S_, .f32⟩
  | .hbm, ⟨43, _⟩ => ⟨S8x4096, .f32⟩
  | .hbm, ⟨44, _⟩ => ⟨S8x4096, .i1⟩
  | .hbm, ⟨45, _⟩ => ⟨S_, .f32⟩
  | .hbm, ⟨46, _⟩ => ⟨S8x4096, .f32⟩
  | .hbm, ⟨47, _⟩ => ⟨S_, .f32⟩
  | .hbm, ⟨48, _⟩ => ⟨S8x4096, .f32⟩
  | .hbm, ⟨49, _⟩ => ⟨S_, .f32⟩
  | .hbm, ⟨50, _⟩ => ⟨S8x4096, .f32⟩
  | .hbm, ⟨51, _⟩ => ⟨S8x4096, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S_, .f32⟩
  | .hbm, ⟨58, _⟩ => ⟨S8x4096, .f32⟩
  | .hbm, ⟨59, _⟩ => ⟨S8x4096x1, .f32⟩
  | .hbm, ⟨60, _⟩ => ⟨S8x4096x4096, .f32⟩
  | .hbm, ⟨61, _⟩ => ⟨S8x4096x4096, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S8x128x4096, .f32⟩
  | .hbm, ⟨67, _⟩ => ⟨S4096x8x128, .f32⟩
  | .hbm, ⟨68, _⟩ => ⟨S4096x1024, .f32⟩
  | .hbm, ⟨69, _⟩ => ⟨S4096x8x128, .f32⟩
  | .hbm, ⟨70, _⟩ => ⟨S8x128x4096, .f32⟩
  | .hbm, ⟨71, _⟩ => ⟨S8x4096x4096, .f32⟩
  | .hbm, ⟨72, _⟩ => ⟨S8x128x4096, .f32⟩
  | .hbm, ⟨73, _⟩ => ⟨S4096x8x128, .f32⟩
  | .hbm, ⟨74, _⟩ => ⟨S8x4096x4096, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096, .f32⟩
  | .hbm, ⟨79, _⟩ => ⟨S8x4096x1, .f32⟩
  | .hbm, ⟨80, _⟩ => ⟨S8x4096x1, .f32⟩
  | .hbm, ⟨81, _⟩ => ⟨S8x4096x4096, .f32⟩
  | .hbm, ⟨82, _⟩ => ⟨S8x4096x4096, .f32⟩
  | .hbm, ⟨83, _⟩ => ⟨S_, .f32⟩
  | .hbm, ⟨84, _⟩ => ⟨S8x4096, .f32⟩
  | .hbm, ⟨85, _⟩ => ⟨S8x4096x4096, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096x4096, .f32⟩
  | .hbm, ⟨90, _⟩ => ⟨S8x4096x4096, .f32⟩
  | .hbm, ⟨91, _⟩ => ⟨S8x4096x4096, .f32⟩
  | .hbm, ⟨92, _⟩ => ⟨S8x4096x4096, .f32⟩
  | .hbm, ⟨93, _⟩ => ⟨S8x4096x128, .f32⟩
  | .hbm, ⟨94, _⟩ => ⟨S4096x8x128, .f32⟩
  | .hbm, ⟨95, _⟩ => ⟨S8x4096x128, .f32⟩
  | .hbm, ⟨96, _⟩ => ⟨S4096x8x128, .f32⟩
  | .hbm, ⟨97, _⟩ => ⟨S4096x1024, .f32⟩
  | .hbm, ⟨98, _⟩ => ⟨S4096x1024, .bf16⟩
  | .hbm, ⟨99, _⟩ => ⟨S4096x1024, .f32⟩
  | .hbm, ⟨100, _⟩ => ⟨S4096x1024, .bf16⟩
  | .hbm, ⟨101, _⟩ => ⟨S4096x1024, .f32⟩
  | .hbm, ⟨102, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_v16_1 : Ref sig .tc := ⟨.hbm, 23, rfl⟩
abbrev main_call0_v2 : Ref sig .tc := ⟨.hbm, 24, rfl⟩
abbrev main_v16_0 : Ref sig .tc := ⟨.hbm, 25, rfl⟩
abbrev main_call0_cst : Ref sig .tc := ⟨.hbm, 26, rfl⟩
abbrev main_v16_2 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call1_cst : Ref sig .tc := ⟨.hbm, 88, rfl⟩
abbrev main_call1_v0 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩

abbrev nD : Nat := 1
abbrev τ : Topo := Topo.v7x

variable {F : FTy → Type} [FloatOps F]
-- ==== Kernel2.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel2Ideal.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S4096x5632 : Shape := ⟨2, ![4096, 5632]⟩
abbrev S1024x5632 : Shape := ⟨2, ![1024, 5632]⟩
abbrev S4096x1024 : Shape := ⟨2, ![4096, 1024]⟩
abbrev S512x5632 : Shape := ⟨2, ![512, 5632]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .bf16⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .bf16⟩
  | .local _ .vmem, ⟨4, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel3Ideal.lean ====
abbrev S4096x5632 : Shape := ⟨2, ![4096, 5632]⟩
abbrev S1024x5632 : Shape := ⟨2, ![1024, 5632]⟩
abbrev S4096x1024 : Shape := ⟨2, ![4096, 1024]⟩
abbrev S512x5632 : Shape := ⟨2, ![512, 5632]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .bf16⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .bf16⟩
  | .local _ .vmem, ⟨4, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S_, .f32⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S4096x1024, .f32⟩
  | .hbm, ⟨8, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x1024 : Shape := ⟨2, ![4096, 1024]⟩
abbrev S4096x5632 : Shape := ⟨2, ![4096, 5632]⟩
abbrev S1024x5632 : Shape := ⟨2, ![1024, 5632]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | .local _ .vmem, ⟨5, _⟩ => ⟨S1024x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel4Ideal.lean ====
abbrev S4096x1024 : Shape := ⟨2, ![4096, 1024]⟩
abbrev S4096x5632 : Shape := ⟨2, ![4096, 5632]⟩
abbrev S1024x5632 : Shape := ⟨2, ![1024, 5632]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | .local _ .vmem, ⟨5, _⟩ => ⟨S1024x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel5Ideal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel6Ideal.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x2816, .f32⟩
  | .hbm, ⟨7, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .f32⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel7Ideal.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .f32⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | .hbm, ⟨5, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S4096x3072 : Shape := ⟨2, ![4096, 3072]⟩
abbrev S1024x3072 : Shape := ⟨2, ![1024, 3072]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x1024, .bf16⟩
  | .local _ .vmem, ⟨4, _⟩ => ⟨S1024x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel9Ideal.lean ====
abbrev S4096x3072 : Shape := ⟨2, ![4096, 3072]⟩
abbrev S1024x3072 : Shape := ⟨2, ![1024, 3072]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x1024, .bf16⟩
  | .local _ .vmem, ⟨4, _⟩ => ⟨S1024x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x3072 : Shape := ⟨2, ![4096, 3072]⟩
abbrev S1024x3072 : Shape := ⟨2, ![1024, 3072]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S_, .f32⟩
  | .hbm, ⟨3, _⟩ => ⟨S4096x1024, .f32⟩
  | .hbm, ⟨4, _⟩ => ⟨S1024x3072, .f32⟩
  | .hbm, ⟨5, _⟩ => ⟨S4096x3072, .f32⟩
  | .hbm, ⟨6, _⟩ => ⟨S4096x3072, .f32⟩
  | .hbm, ⟨7, _⟩ => ⟨S4096x1024, .f32⟩
  | .hbm, ⟨8, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x1024 : Shape := ⟨2, ![4096, 1024]⟩
abbrev S4096x3072 : Shape := ⟨2, ![4096, 3072]⟩
abbrev S1024x3072 : Shape := ⟨2, ![1024, 3072]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | .local _ .vmem, ⟨5, _⟩ => ⟨S1024x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel10Ideal.lean ====
abbrev S4096x1024 : Shape := ⟨2, ![4096, 1024]⟩
abbrev S4096x3072 : Shape := ⟨2, ![4096, 3072]⟩
abbrev S1024x3072 : Shape := ⟨2, ![1024, 3072]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | .local _ .vmem, ⟨5, _⟩ => ⟨S1024x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .f32⟩
  | .local _ .vmem, ⟨4, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x1024, .f32⟩
  | .hbm, ⟨8, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | .local _ .vmem, ⟨5, _⟩ => ⟨S1024x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel13Ideal.lean ====
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | .local _ .vmem, ⟨5, _⟩ => ⟨S1024x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4096x1024 : Shape := ⟨2, ![4096, 1024]⟩
abbrev S1024x1536 : Shape := ⟨2, ![1024, 1536]⟩
abbrev S4096x1536 : Shape := ⟨2, ![4096, 1536]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel14Ideal.lean ====
abbrev S4096x1024 : Shape := ⟨2, ![4096, 1024]⟩
abbrev S1024x1536 : Shape := ⟨2, ![1024, 1536]⟩
abbrev S4096x1536 : Shape := ⟨2, ![4096, 1536]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x1536 : Shape := ⟨2, ![1024, 1536]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1024, .f32⟩
  | .hbm, ⟨3, _⟩ => ⟨S1024x1536, .f32⟩
  | .hbm, ⟨4, _⟩ => ⟨S4096x1536, .f32⟩
  | .hbm, ⟨5, _⟩ => ⟨S4096x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S4096x1536 : Shape := ⟨2, ![4096, 1536]⟩
abbrev S1024x1536 : Shape := ⟨2, ![1024, 1536]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .bf16⟩
  | .local _ .vmem, ⟨4, _⟩ => ⟨S1024x1024, .bf16⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel15Ideal.lean ====
abbrev S4096x1536 : Shape := ⟨2, ![4096, 1536]⟩
abbrev S1024x1536 : Shape := ⟨2, ![1024, 1536]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .bf16⟩
  | .local _ .vmem, ⟨4, _⟩ => ⟨S1024x1024, .bf16⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1536 : Shape := ⟨2, ![4096, 1536]⟩
abbrev S1024x1536 : Shape := ⟨2, ![1024, 1536]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S_, .f32⟩
  | .hbm, ⟨3, _⟩ => ⟨S4096x1024, .f32⟩
  | .hbm, ⟨4, _⟩ => ⟨S1024x1536, .f32⟩
  | .hbm, ⟨5, _⟩ => ⟨S4096x1536, .f32⟩
  | .hbm, ⟨6, _⟩ => ⟨S4096x1536, .f32⟩
  | .hbm, ⟨7, _⟩ => ⟨S4096x1024, .f32⟩
  | .hbm, ⟨8, _⟩ => ⟨S4096x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S4096x1024 : Shape := ⟨2, ![4096, 1024]⟩
abbrev S4096x1536 : Shape := ⟨2, ![4096, 1536]⟩
abbrev S1024x1536 : Shape := ⟨2, ![1024, 1536]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x1536, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | .local _ .vmem, ⟨5, _⟩ => ⟨S1024x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel16Ideal.lean ====
abbrev S4096x1024 : Shape := ⟨2, ![4096, 1024]⟩
abbrev S4096x1536 : Shape := ⟨2, ![4096, 1536]⟩
abbrev S1024x1536 : Shape := ⟨2, ![1024, 1536]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x1536, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | .local _ .vmem, ⟨5, _⟩ => ⟨S1024x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4096x1024 : Shape := ⟨2, ![4096, 1024]⟩
abbrev S4096x1536 : Shape := ⟨2, ![4096, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S_, .f32⟩
  | .hbm, ⟨3, _⟩ => ⟨S1024x1536, .f32⟩
  | .hbm, ⟨4, _⟩ => ⟨S4096x1024, .f32⟩
  | .hbm, ⟨5, _⟩ => ⟨S4096x1536, .f32⟩
  | .hbm, ⟨6, _⟩ => ⟨S4096x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .bf16⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S1024x2048, .bf16⟩
  | .local _ .vmem, ⟨4, _⟩ => ⟨S1024x2048, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel17Ideal.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .bf16⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S1024x2048, .bf16⟩
  | .local _ .vmem, ⟨4, _⟩ => ⟨S1024x2048, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x512, .f32⟩
  | .hbm, ⟨3, _⟩ => ⟨S512x2048, .f32⟩
  | .hbm, ⟨4, _⟩ => ⟨S4096x2048, .f32⟩
  | .hbm, ⟨5, _⟩ => ⟨S4096x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S4096x2048 : Shape := ⟨2, ![4096, 2048]⟩
abbrev S512x2048 : Shape := ⟨2, ![512, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x512, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .bf16⟩
  | .local _ .vmem, ⟨4, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel18Ideal.lean ====
abbrev S4096x2048 : Shape := ⟨2, ![4096, 2048]⟩
abbrev S512x2048 : Shape := ⟨2, ![512, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x512, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .bf16⟩
  | .local _ .vmem, ⟨4, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x2048 : Shape := ⟨2, ![4096, 2048]⟩
abbrev S512x2048 : Shape := ⟨2, ![512, 2048]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S_, .f32⟩
  | .hbm, ⟨3, _⟩ => ⟨S4096x512, .f32⟩
  | .hbm, ⟨4, _⟩ => ⟨S512x2048, .f32⟩
  | .hbm, ⟨5, _⟩ => ⟨S4096x2048, .f32⟩
  | .hbm, ⟨6, _⟩ => ⟨S4096x2048, .f32⟩
  | .hbm, ⟨7, _⟩ => ⟨S4096x512, .f32⟩
  | .hbm, ⟨8, _⟩ => ⟨S4096x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S4096x512 : Shape := ⟨2, ![4096, 512]⟩
abbrev S4096x2048 : Shape := ⟨2, ![4096, 2048]⟩
abbrev S512x2048 : Shape := ⟨2, ![512, 2048]⟩
abbrev S4096x1024 : Shape := ⟨2, ![4096, 1024]⟩
abbrev S512x1024 : Shape := ⟨2, ![512, 1024]⟩
abbrev S512x4096 : Shape := ⟨2, ![512, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x2048, .bf16⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S512x4096, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel19Ideal.lean ====
abbrev S4096x512 : Shape := ⟨2, ![4096, 512]⟩
abbrev S4096x2048 : Shape := ⟨2, ![4096, 2048]⟩
abbrev S512x2048 : Shape := ⟨2, ![512, 2048]⟩
abbrev S4096x1024 : Shape := ⟨2, ![4096, 1024]⟩
abbrev S512x1024 : Shape := ⟨2, ![512, 1024]⟩
abbrev S512x4096 : Shape := ⟨2, ![512, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x2048, .bf16⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S512x4096, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S_, .f32⟩
  | .hbm, ⟨3, _⟩ => ⟨S512x2048, .f32⟩
  | .hbm, ⟨4, _⟩ => ⟨S4096x512, .f32⟩
  | .hbm, ⟨5, _⟩ => ⟨S4096x2048, .f32⟩
  | .hbm, ⟨6, _⟩ => ⟨S4096x2048, .f32⟩
  | .hbm, ⟨7, _⟩ => ⟨S2048x512, .f32⟩
  | .hbm, ⟨8, _⟩ => ⟨S512x2048, .f32⟩
  | .hbm, ⟨9, _⟩ => ⟨S512x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel20.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel20Ideal.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference20Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel21Ideal.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S4096x1024, .bf16⟩
  | .local _ .vmem, ⟨1, _⟩ => ⟨S4096x256, .f32⟩
  | .local _ .vmem, ⟨2, _⟩ => ⟨S4096x256, .f32⟩
  | .local _ .vmem, ⟨3, _⟩ => ⟨S1024x256, .bf16⟩
  | .local _ .vmem, ⟨4, _⟩ => ⟨S1024x256, .bf16⟩
  | .local _ .vmem, ⟨5, _⟩ => ⟨S1024x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel22Ideal.lean ====
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S4096x1024, .bf16⟩
  | .local _ .vmem, ⟨1, _⟩ => ⟨S4096x256, .f32⟩
  | .local _ .vmem, ⟨2, _⟩ => ⟨S4096x256, .f32⟩
  | .local _ .vmem, ⟨3, _⟩ => ⟨S1024x256, .bf16⟩
  | .local _ .vmem, ⟨4, _⟩ => ⟨S1024x256, .bf16⟩
  | .local _ .vmem, ⟨5, _⟩ => ⟨S1024x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel23Ideal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .f32⟩
  | .hbm, ⟨3, _⟩ => ⟨S512x1024, .f32⟩
  | .hbm, ⟨4, _⟩ => ⟨S4096x1024, .f32⟩
  | .hbm, ⟨5, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel24.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel24Ideal.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S4096x512, .f32⟩
  | .hbm, ⟨8, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel25.lean ====
abbrev S4096x512 : Shape := ⟨2, ![4096, 512]⟩
abbrev S4096x1024 : Shape := ⟨2, ![4096, 1024]⟩
abbrev S512x1024 : Shape := ⟨2, ![512, 1024]⟩
abbrev S512x4096 : Shape := ⟨2, ![512, 4096]⟩

abbrev nBuf : Space → Nat
  | .hbm => 3
  | .vmem => 4
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S4096x512, .bf16⟩
  | .local _ .vmem, ⟨1, _⟩ => ⟨S4096x1024, .bf16⟩
  | .local _ .vmem, ⟨2, _⟩ => ⟨S512x1024, .bf16⟩
  | .local _ .vmem, ⟨3, _⟩ => ⟨S512x4096, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Kernel25Ideal.lean ====
abbrev S4096x512 : Shape := ⟨2, ![4096, 512]⟩
abbrev S4096x1024 : Shape := ⟨2, ![4096, 1024]⟩
abbrev S512x1024 : Shape := ⟨2, ![512, 1024]⟩
abbrev S512x4096 : Shape := ⟨2, ![512, 4096]⟩

abbrev nBuf : Space → Nat
  | .hbm => 3
  | .vmem => 4
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S4096x512, .bf16⟩
  | .local _ .vmem, ⟨1, _⟩ => ⟨S4096x1024, .bf16⟩
  | .local _ .vmem, ⟨2, _⟩ => ⟨S512x1024, .bf16⟩
  | .local _ .vmem, ⟨3, _⟩ => ⟨S512x4096, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference25Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel26.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel26Ideal.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel27.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel27Ideal.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel28.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | .local _ .vmem, ⟨5, _⟩ => ⟨S1024x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel28Ideal.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | .local _ .vmem, ⟨5, _⟩ => ⟨S1024x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference28Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel29.lean ====
abbrev S4096x1024 : Shape := ⟨2, ![4096, 1024]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel29Ideal.lean ====
abbrev S4096x1024 : Shape := ⟨2, ![4096, 1024]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S4096x1024 : Shape := ⟨2, ![4096, 1024]⟩
abbrev S1024x512 : Shape := ⟨2, ![1024, 512]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x1024, .f32⟩
  | .hbm, ⟨3, _⟩ => ⟨S1024x512, .f32⟩
  | .hbm, ⟨4, _⟩ => ⟨S4096x512, .f32⟩
  | .hbm, ⟨5, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel30.lean ====
abbrev S4096x512 : Shape := ⟨2, ![4096, 512]⟩
abbrev S1024x512 : Shape := ⟨2, ![1024, 512]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S1024x512, .bf16⟩
  | .hbm, ⟨2, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .bf16⟩
  | .local _ .vmem, ⟨4, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel30Ideal.lean ====
abbrev S4096x512 : Shape := ⟨2, ![4096, 512]⟩
abbrev S1024x512 : Shape := ⟨2, ![1024, 512]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S1024x512, .bf16⟩
  | .hbm, ⟨2, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .bf16⟩
  | .local _ .vmem, ⟨4, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S4096x512 : Shape := ⟨2, ![4096, 512]⟩
abbrev S1024x512 : Shape := ⟨2, ![1024, 512]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S1024x512, .bf16⟩
  | .hbm, ⟨2, _⟩ => ⟨S_, .f32⟩
  | .hbm, ⟨3, _⟩ => ⟨S4096x1024, .f32⟩
  | .hbm, ⟨4, _⟩ => ⟨S1024x512, .f32⟩
  | .hbm, ⟨5, _⟩ => ⟨S4096x512, .f32⟩
  | .hbm, ⟨6, _⟩ => ⟨S4096x512, .f32⟩
  | .hbm, ⟨7, _⟩ => ⟨S4096x1024, .f32⟩
  | .hbm, ⟨8, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel31.lean ====
abbrev S4096x1024 : Shape := ⟨2, ![4096, 1024]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S4096x1024, .bf16⟩
  | .local _ .vmem, ⟨1, _⟩ => ⟨S4096x512, .bf16⟩
  | .local _ .vmem, ⟨2, _⟩ => ⟨S1024x512, .bf16⟩
  | .local _ .vmem, ⟨3, _⟩ => ⟨S1024x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Kernel31Ideal.lean ====
abbrev S4096x1024 : Shape := ⟨2, ![4096, 1024]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S4096x1024, .bf16⟩
  | .local _ .vmem, ⟨1, _⟩ => ⟨S4096x512, .bf16⟩
  | .local _ .vmem, ⟨2, _⟩ => ⟨S1024x512, .bf16⟩
  | .local _ .vmem, ⟨3, _⟩ => ⟨S1024x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference31Ideal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S_, .f32⟩
  | .hbm, ⟨3, _⟩ => ⟨S1024x512, .f32⟩
  | .hbm, ⟨4, _⟩ => ⟨S4096x1024, .f32⟩
  | .hbm, ⟨5, _⟩ => ⟨S4096x512, .f32⟩
  | .hbm, ⟨6, _⟩ => ⟨S4096x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel32.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference32Ideal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel33.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S512x1024, .bf16⟩
  | .hbm, ⟨2, _⟩ => ⟨S4096x512, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel33Ideal.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S512x1024, .bf16⟩
  | .hbm, ⟨2, _⟩ => ⟨S4096x512, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference33Ideal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S512x1024, .bf16⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x512, .f32⟩
  | .hbm, ⟨7, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel34.lean ====
abbrev S4096x512 : Shape := ⟨2, ![4096, 512]⟩
abbrev S4096x1024 : Shape := ⟨2, ![4096, 1024]⟩
abbrev S512x1024 : Shape := ⟨2, ![512, 1024]⟩
abbrev S512x512 : Shape := ⟨2, ![512, 512]⟩
abbrev S512x4096 : Shape := ⟨2, ![512, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .f32⟩
  | .hbm, ⟨2, _⟩ => ⟨S512x1024, .bf16⟩
  | .local _ .vmem, ⟨0, _⟩ => ⟨S4096x512, .bf16⟩
  | .local _ .vmem, ⟨1, _⟩ => ⟨S4096x512, .f32⟩
  | .local _ .vmem, ⟨2, _⟩ => ⟨S4096x512, .f32⟩
  | .local _ .vmem, ⟨3, _⟩ => ⟨S512x512, .bf16⟩
  | .local _ .vmem, ⟨4, _⟩ => ⟨S512x512, .bf16⟩
  | .local _ .vmem, ⟨5, _⟩ => ⟨S512x4096, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel34Ideal.lean ====
abbrev S4096x512 : Shape := ⟨2, ![4096, 512]⟩
abbrev S4096x1024 : Shape := ⟨2, ![4096, 1024]⟩
abbrev S512x1024 : Shape := ⟨2, ![512, 1024]⟩
abbrev S512x512 : Shape := ⟨2, ![512, 512]⟩
abbrev S512x4096 : Shape := ⟨2, ![512, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .f32⟩
  | .hbm, ⟨2, _⟩ => ⟨S512x1024, .bf16⟩
  | .local _ .vmem, ⟨0, _⟩ => ⟨S4096x512, .bf16⟩
  | .local _ .vmem, ⟨1, _⟩ => ⟨S4096x512, .f32⟩
  | .local _ .vmem, ⟨2, _⟩ => ⟨S4096x512, .f32⟩
  | .local _ .vmem, ⟨3, _⟩ => ⟨S512x512, .bf16⟩
  | .local _ .vmem, ⟨4, _⟩ => ⟨S512x512, .bf16⟩
  | .local _ .vmem, ⟨5, _⟩ => ⟨S512x4096, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference34Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel35.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .bf16⟩
  | .local _ .vmem, ⟨4, _⟩ => ⟨S1024x1024, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference35Ideal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x256, .f32⟩
  | .hbm, ⟨3, _⟩ => ⟨S256x1024, .f32⟩
  | .hbm, ⟨4, _⟩ => ⟨S4096x1024, .f32⟩
  | .hbm, ⟨5, _⟩ => ⟨S4096x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel36.lean ====
abbrev S4096x1024 : Shape := ⟨2, ![4096, 1024]⟩
abbrev S256x1024 : Shape := ⟨2, ![256, 1024]⟩
abbrev S4096x256 : Shape := ⟨2, ![4096, 256]⟩
abbrev S1024x1024 : Shape := ⟨2, ![1024, 1024]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S4096x256, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .bf16⟩
  | .local _ .vmem, ⟨4, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference36Ideal.lean ====
abbrev S4096x1024 : Shape := ⟨2, ![4096, 1024]⟩
abbrev S256x1024 : Shape := ⟨2, ![256, 1024]⟩
abbrev S_ : Shape := ⟨0, ![]⟩
abbrev S4096x256 : Shape := ⟨2, ![4096, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S_, .f32⟩
  | .hbm, ⟨3, _⟩ => ⟨S4096x256, .f32⟩
  | .hbm, ⟨4, _⟩ => ⟨S256x1024, .f32⟩
  | .hbm, ⟨5, _⟩ => ⟨S4096x1024, .f32⟩
  | .hbm, ⟨6, _⟩ => ⟨S4096x1024, .f32⟩
  | .hbm, ⟨7, _⟩ => ⟨S4096x256, .f32⟩
  | .hbm, ⟨8, _⟩ => ⟨S4096x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel37.lean ====
abbrev S4096x256 : Shape := ⟨2, ![4096, 256]⟩
abbrev S4096x1024 : Shape := ⟨2, ![4096, 1024]⟩
abbrev S256x1024 : Shape := ⟨2, ![256, 1024]⟩
abbrev S256x4096 : Shape := ⟨2, ![256, 4096]⟩

abbrev nBuf : Space → Nat
  | .hbm => 3
  | .vmem => 4
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S256x1024, .bf16⟩
  | .local _ .vmem, ⟨0, _⟩ => ⟨S4096x256, .bf16⟩
  | .local _ .vmem, ⟨1, _⟩ => ⟨S4096x1024, .bf16⟩
  | .local _ .vmem, ⟨2, _⟩ => ⟨S256x1024, .bf16⟩
  | .local _ .vmem, ⟨3, _⟩ => ⟨S256x4096, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference37Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Blocks.lean ====
module

public import proofs.«01_k».proof.Proof.Gen.KernelIdeal.Skeleton
public import Idealize.ShloMosaic.Lib.VecWindow

/-!
What one grid point of the attention backward computes, as plain functions of the arrays it reads.
A head's 4096 rows are eight blocks of 512. At block `j` of the keys the point goes through the
blocks `b ≥ j` of the queries: block `j` itself under the causal mask, then the later ones. For each
it adds to its running gradients of the keys and values and to the rows `b` of the gradient of the
queries.
-/

@[expose] public section

set_option maxRecDepth 16384

noncomputable section

namespace Cert.KernelIdeal.Hand

open Idealize.ShloMosaic Idealize.ShloMosaic.TcCoe
open Cert.KernelIdeal.Gen

variable {F : FTy → Type} [FloatOps F] [Named F]

theorem block_inb (b : ℕ) : ∀ a, (![b % 8 * 512, 0] : Fin 2 → ℕ) a + S512x128.size a ≤ S4096x128.size a := by
  intro a
  fin_cases a
  · show b % 8 * 512 + 512 ≤ 4096; omega
  · exact Nat.le_refl 128

theorem column_inb (b : ℕ) : ∀ a, (![b % 8 * 512, 0] : Fin 2 → ℕ) a + S512x1.size a ≤ S4096x128.size a := by
  intro a
  fin_cases a
  · show b % 8 * 512 + 512 ≤ 4096; omega
  · show 0 + 1 ≤ 128; omega

/-- The rows of block `b`. -/
def rows {e : EltTy} (X : Vec F S4096x128 e) (b : ℕ) : Vec F S512x128 e :=
  VecWindow.window (s := S4096x128) X ![b % 8 * 512, 0] S512x128.size (block_inb b)

/-- The first column of the rows of block `b`. -/
def column {e : EltTy} (X : Vec F S4096x128 e) (b : ℕ) : Vec F S512x1 e :=
  VecWindow.window (s := S4096x128) X ![b % 8 * 512, 0] S512x1.size (column_inb b)

/-- `X` with `W` in place of the rows of block `b`. -/
def putRows {e : EltTy} (X : Vec F S4096x128 e) (b : ℕ) (W : Vec F S512x128 e) : Vec F S4096x128 e :=
  VecWindow.put (s := S4096x128) X ![b % 8 * 512, 0] S512x128.size W

/-- The five arrays of a head that are read by rows, and the point's block of keys and of values. -/
structure Arrays (F : FTy → Type) where
  q : Vec F S4096x128 .bf16
  k : Vec F S512x128 .bf16
  v : Vec F S512x128 .bf16
  o : Vec F S4096x128 .bf16
  lse : Vec F S4096x128 .f32
  g : Vec F S4096x128 .bf16

/-- The gradient of the queries, and the running gradients of the keys and of the values. -/
abbrev State (F : FTy → Type) := Vec F S4096x128 .f32 × (Vec F S512x128 .f32 × Vec F S512x128 .f32)

/-- The diagonal block `j`, where the causal mask cuts. -/
def diagonal (A : Arrays F) (j : ℕ) (acc : Vec F S4096x128 .f32) : State F :=
  let p := k0_pay27 A.k (rows A.q j) (column A.lse j)
  let d := k0_pay30 A.v (rows A.g j) (rows A.o j)
  (putRows acc j (k0_pay2 A.k p d (rows acc j)),
    (k0_pay3 k0_pay24 (k0_pay25 (rows A.q j)) p d, k0_pay29 A.k (rows A.q j) (rows A.g j) (column A.lse j)))

/-- A later block `b`, where nothing is masked. -/
def later (A : Arrays F) (b : ℕ) (s : State F) : State F :=
  (putRows s.1 b (k0_pay10 A.k A.v (rows A.q b) (rows A.g b) (rows A.o b) (column A.lse b) (rows s.1 b)),
    (k0_pay11 A.k A.v s.2.1 (rows A.q b) (rows A.g b) (rows A.o b) (column A.lse b),
      k0_pay8 A.k s.2.2 (rows A.q b) (rows A.g b) (column A.lse b)))

/-- The state after `n` later blocks `j + 1, …, j + n`. -/
def laters (A : Arrays F) (j : ℕ) (s : State F) : ℕ → State F
  | 0 => s
  | n + 1 => later A (j + 1 + n) (laters A j s n)

/-- The whole point at block `j`, from the gradient of the queries so far. -/
def point (A : Arrays F) (j : ℕ) (acc : Vec F S4096x128 .f32) : State F :=
  laters A j (diagonal A j acc) (7 - j)

/-! ### The offsets and the numbers of trips -/

/-- The first loop's bounds at block `j`. -/
def loopAt (j : Fin 8) : Scf.Loop 32 :=
  ⟨Scalar.addi (BitVec.ofNat 32 j.val) 1#32,
    Scalar.addi (Scalar.addi (BitVec.ofNat 32 j.val) 1#32) (Scalar.muli (Scalar.divsi (Scalar.subi 8#32 (Scalar.addi (BitVec.ofNat 32 j.val) 1#32)) 1#32) 1#32), 1#32⟩

/-- The second loop's bounds at block `j`. -/
def restAt (j : Fin 8) : Scf.Loop 32 :=
  ⟨Scalar.addi (Scalar.addi (BitVec.ofNat 32 j.val) 1#32) (Scalar.muli (Scalar.divsi (Scalar.subi 8#32 (Scalar.addi (BitVec.ofNat 32 j.val) 1#32)) 1#32) 1#32),
    Scalar.addi (Scalar.addi (BitVec.ofNat 32 j.val) 1#32) (Scalar.subi 8#32 (Scalar.addi (BitVec.ofNat 32 j.val) 1#32)), 1#32⟩

theorem trips_first (i : grid0.Coords) : (k0_t1_loop i).trips = 7 - (i 1).val :=
  (by decide : ∀ j : Fin 8, (loopAt j).trips = 7 - j.val) (i 1)

/-- The second loop, the remainder of a strip of one, makes no trip. -/
theorem trips_rest (i : grid0.Coords) : (k0_t2_loop i).trips = 0 :=
  (by decide : ∀ j : Fin 8, (restAt j).trips = 0) (i 1)

theorem off_diagonal (i : grid0.Coords) : k0_off1 i = ![(i 1).val % 8 * 512, 0] :=
  (by decide : ∀ j : Fin 8, (![(Scalar.indexCast (Scalar.muli (BitVec.ofNat 32 j.val) 512#32)).toNat, 0] : Fin 2 → ℕ) = ![j.val % 8 * 512, 0]) (i 1)

theorem off_column (i : grid0.Coords) : k0_off2 i = ![(i 1).val % 8 * 512, 0] := off_diagonal i

theorem off_word : ∀ j : Fin 8, ∀ n : Fin 8, n.val < 7 - j.val →
    (Scalar.indexCast (Scalar.muli (Scf.iv (Scalar.addi (BitVec.ofNat 32 j.val) 1#32) 1#32 n.val) 512#32)).toNat = (j.val + 1 + n.val) % 8 * 512 := by
  decide

theorem off_later (i : grid0.Coords) (k : Fin (k0_t1_loop i).trips) : k0_off3 i k = ![((i 1).val + 1 + k.val) % 8 * 512, 0] := by
  have hk : k.val < 7 - (i 1).val := lt_of_lt_of_eq k.isLt (trips_first i)
  have h := off_word (i 1) ⟨k.val, by omega⟩ hk
  exact congrArg (fun n => (![n, 0] : Fin 2 → ℕ)) h

theorem off_later_column (i : grid0.Coords) (k : Fin (k0_t1_loop i).trips) : k0_off4 i k = ![((i 1).val + 1 + k.val) % 8 * 512, 0] := off_later i k

end Cert.KernelIdeal.Hand
-- ==== Proof.Trip.lean ====
module

public import proofs.«01_k».proof.Proof.Blocks
public import proofs.«01_k».proof.Proof.Gen.KernelIdeal.Frame

/-! One trip of the loop over the later blocks, and the two conditions of a grid point. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- The point is the head's first. -/
abbrev atStart (i : grid0.Coords) : Prop := (Scalar.cmpi .ne (Scalar.extui (Scalar.cmpi .eq (BitVec.ofNat 32 (i 1).val) 0#32)) 0#32) = 1#1

/-- The point is the head's last. -/
abbrev atEnd (i : grid0.Coords) : Prop := k0_cond2 i = 1#1

theorem read_rows {e : EltTy} (m : Memref sig .tc .vmem S4096x128 e) (f : m.view.ty.Contents (Elt F)) {off : Fin 2 → ℕ} (b : ℕ)
    (h : off = ![b % 8 * 512, 0]) (inb : ∀ a, off a + S512x128.size a ≤ S4096x128.size a) :
    m.view.readAt (Elt F) (Rect.unit (s := S4096x128) off S512x128.size inb).toLoadRect f = rows (m.view.read (Elt F) f) b :=
  View.readAt_unit m.view f inb h (block_inb b)

theorem read_column {e : EltTy} (m : Memref sig .tc .vmem S4096x128 e) (f : m.view.ty.Contents (Elt F)) {off : Fin 2 → ℕ} (b : ℕ)
    (h : off = ![b % 8 * 512, 0]) (inb : ∀ a, off a + S512x1.size a ≤ S4096x128.size a) :
    m.view.readAt (Elt F) (Rect.unit (s := S4096x128) off S512x1.size inb).toLoadRect f = column (m.view.read (Elt F) f) b :=
  View.readAt_unit m.view f inb h (column_inb b)

theorem read_putRows {e : EltTy} (m : Memref sig .tc .vmem S4096x128 e) (f : m.view.ty.Contents (Elt F)) {off : Fin 2 → ℕ} (b : ℕ)
    (h : off = ![b % 8 * 512, 0]) (inb : ∀ a, off a + S512x128.size a ≤ S4096x128.size a) (W : Vec F S512x128 e)
    (L : List (View.Piece (Elt F) S4096x128 e)) :
    m.view.read (Elt F) (m.view.writes (Elt F) f (⟨Rect.unit (s := S4096x128) off S512x128.size inb, W⟩ :: L))
      = putRows (m.view.read (Elt F) (m.view.writes (Elt F) f L)) b W :=
  View.read_writes_cons_put m.view f inb W L h

section
variable (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S4096x128 .f32) (harg11 : arg11.IsWhole)

/-- Before trip `k`: the four arrays read, the gradient of the queries so far, and the carried pair. -/
def loopInv (A : Arrays F) (s : State F) (k : ℕ) (acc : FVec F S512x128 .f32 × FVec F S512x128 .f32) : sProp 𝕄 :=
  iprop(owns (c : Thread nD τ) arg2 fullShare A.q ∗ owns (c : Thread nD τ) arg5 fullShare A.o ∗ owns (c : Thread nD τ) arg6 fullShare A.lse ∗ owns (c : Thread nD τ) arg7 fullShare A.g
    ∗ owns (c : Thread nD τ) arg11 fullShare (laters A (i 1).val s k).1 ∗ ⌜acc = (laters A (i 1).val s k).2⌝)

set_option maxHeartbeats 4000000 in
/-- Trip `k` adds the block `j + 1 + k`. -/
theorem trip (A : Arrays F) (s : State F) (E : Set ℕ) (k : Fin (k0_t1_loop i).trips) (acc : FVec F S512x128 .f32 × FVec F S512x128 .f32) :
    loopInv c i arg2 arg5 arg6 arg7 arg11 A s k.val acc
    ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 A.k A.v k acc)
        (fun acc' => loopInv c i arg2 arg5 arg6 arg7 arg11 A s (k.val + 1) acc') := by
  unfold loopInv k0_t1_body owns
  iintro ⟨⟨%f2, %hf2, H2⟩, ⟨%f5, %hf5, H5⟩, ⟨%f6, %hf6, H6⟩, ⟨%f7, %hf7, H7⟩, ⟨%f11, %hf11, H11⟩, %hacc⟩
  obtain rfl := hacc
  have e3 := off_later i k
  have e4 := off_later_column i k
  sl_exec
  sl_step
  isplitl [H2]
  · iexists _; isplitr
    · ipureintro; exact hf2
    iexact H2
  isplitl [H5]
  · iexists _; isplitr
    · ipureintro; exact hf5
    iexact H5
  isplitl [H6]
  · iexists _; isplitr
    · ipureintro; exact hf6
    iexact H6
  isplitl [H7]
  · iexists _; isplitr
    · ipureintro; exact hf7
    iexact H7
  isplitl [H11]
  · iexists _; isplitr
    rotate_left
    · iexact H11
    · ipureintro
      refine (read_putRows arg11 _ _ e3 _ _ _).trans ?_
      rw [View.writes_nil, read_rows arg2 _ _ e3, read_rows arg7 _ _ e3, read_rows arg5 _ _ e3, read_column arg6 _ _ e4, read_rows arg11 _ _ e3, hf2, hf5, hf6, hf7, hf11]
      rfl
  · ipureintro
    rw [read_rows arg2 _ _ e3, read_rows arg7 _ _ e3, read_rows arg5 _ _ e3, read_column arg6 _ _ e4, hf2, hf5, hf6, hf7]
    rfl

end

end Cert.KernelIdeal.Hand
-- ==== Proof.RunA.lean ====
module

public import proofs.«01_k».proof.Proof.Trip

/-! The first grid point of a head. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

section
variable (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S4096x128 .f32) (harg11 : arg11.IsWhole)

set_option maxHeartbeats 4000000 in
/-- The first point of a head starts the gradient of the queries at zero. -/
theorem runA (hc0 : atStart i) (hc1 : ¬ atEnd i)
    (A : Arrays F) (x8 : Vec F S4096x128 .bf16)
    (E : Set ℕ) (K : PUnit → sProp 𝕄) :
    iprop(owns (c : Thread nD τ) arg2 fullShare A.q ∗ owns (c : Thread nD τ) arg3 fullShare A.k ∗ owns (c : Thread nD τ) arg4 fullShare A.v ∗ owns (c : Thread nD τ) arg5 fullShare A.o ∗ owns (c : Thread nD τ) arg6 fullShare A.lse ∗ owns (c : Thread nD τ) arg7 fullShare A.g ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg2 fullShare A.q ∗ owns (c : Thread nD τ) arg3 fullShare A.k ∗ owns (c : Thread nD τ) arg4 fullShare A.v ∗ owns (c : Thread nD τ) arg5 fullShare A.o ∗ owns (c : Thread nD τ) arg6 fullShare A.lse ∗ owns (c : Thread nD τ) arg7 fullShare A.g ∗ owns (c : Thread nD τ) arg8 fullShare x8
          ∗ owns (c : Thread nD τ) arg9 fullShare (k0_pay20 (point A (i 1).val k0_pay23).2.1) ∗ owns (c : Thread nD τ) arg10 fullShare (k0_pay21 (point A (i 1).val k0_pay23).2.2) ∗ owns (c : Thread nD τ) arg11 fullShare (point A (i 1).val k0_pay23).1) -∗ K ⟨⟩))
    ⊢ wp frame (wpE (defs₀ (F := F)) Variants.none c none) E (cc0_mla_attn_bwd i arg2 harg2 arg3 harg3 arg4 harg4 arg5 harg5 arg6 harg6 arg7 harg7 arg8 harg8 arg9 harg9 arg10 harg10 arg11 harg11) K := by
  simp only [cc0_mla_attn_bwd_eq_skeleton]; unfold cc0_mla_attn_bwd_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds, %fs, -, HS⟩, Hk⟩
  have e1 := off_diagonal i
  have e2 := off_column i
  have e3 : arg3.view.readAt (Elt F) (Rect.unit (s := S512x128) ![0, 0] S512x128.size inb_S512x128_S512x128_0_0).toLoadRect f3 = A.k := (View.readAt_full _ _ _).trans hf3
  have e4 : arg4.view.readAt (Elt F) (Rect.unit (s := S512x128) ![0, 0] S512x128.size inb_S512x128_S512x128_0_0).toLoadRect f4 = A.v := (View.readAt_full _ _ _).trans hf4
  have r2 : arg2.view.readAt (Elt F) (Rect.unit (s := S4096x128) (k0_off1 i) S512x128.size (k0_off1_inb i)).toLoadRect f2 = rows A.q (i 1).val := by rw [← hf2]; exact read_rows arg2 f2 _ e1 _
  have r5 : arg5.view.readAt (Elt F) (Rect.unit (s := S4096x128) (k0_off1 i) S512x128.size (k0_off1_inb i)).toLoadRect f5 = rows A.o (i 1).val := by rw [← hf5]; exact read_rows arg5 f5 _ e1 _
  have r6 : arg6.view.readAt (Elt F) (Rect.unit (s := S4096x128) (k0_off2 i) S512x1.size (k0_off2_inb i)).toLoadRect f6 = column A.lse (i 1).val := by rw [← hf6]; exact read_column arg6 f6 _ e2 _
  have r7 : arg7.view.readAt (Elt F) (Rect.unit (s := S4096x128) (k0_off1 i) S512x128.size (k0_off1_inb i)).toLoadRect f7 = rows A.g (i 1).val := by rw [← hf7]; exact read_rows arg7 f7 _ e1 _
  sl_exec (disch := first | sl_exact hc0 | sl_exact hc1)
  sl_for (loopInv c i arg2 arg5 arg6 arg7 arg11 A (diagonal A (i 1).val k0_pay23)) $$ [H2 H5 H6 H7 HS]
  · intro k acc
    exact trip c i arg2 harg2 arg3 harg3 arg4 harg4 arg5 harg5 arg6 harg6 arg7 harg7 arg8 harg8 arg9 harg9 arg10 harg10 arg11 harg11 A _ E k acc
  · unfold loopInv owns
    isplitl [H2]
    · iexists _; isplitr
      rotate_left
      · iexact H2
      · ipureintro; exact hf2
    isplitl [H5]
    · iexists _; isplitr
      rotate_left
      · iexact H5
      · ipureintro; exact hf5
    isplitl [H6]
    · iexists _; isplitr
      rotate_left
      · iexact H6
      · ipureintro; exact hf6
    isplitl [H7]
    · iexists _; isplitr
      rotate_left
      · iexact H7
      · ipureintro; exact hf7
    isplitl [HS]
    · iexists _; isplitr
      rotate_left
      · iexact HS
      · ipureintro
        refine (read_putRows arg11 _ _ e1 _ _ _).trans ?_
        have hw : arg11.view.read (Elt F) (arg11.view.writes (Elt F) arg11.view.junk runA.sl.HS_1) = (k0_pay23 (F := F)) := View.read_writes_full _ _ _ _ _
        have hv : runA.sl.v43 c i arg11 = rows (k0_pay23 (F := F)) (i 1).val := by rw [← hw]; exact read_rows arg11 _ _ e1 _
        rw [hw, hv]
        rfl
    · ipureintro
      rfl
  iintro %acc HI
  unfold loopInv owns
  icases HI with ⟨⟨%f2', %hf2', H2⟩, ⟨%f5', %hf5', H5⟩, ⟨%f6', %hf6', H6⟩, ⟨%f7', %hf7', H7⟩, ⟨%f11', %hf11', HS⟩, %hacc⟩
  obtain rfl := hacc
  rw [show Scf.trips (k0_t1_loop i).lb (k0_t1_loop i).ub (k0_t1_loop i).st = 7 - (i 1).val from trips_first i] at *
  sl_for (fun _ acc => iprop(⌜acc = (laters A (i 1).val (diagonal A (i 1).val k0_pay23) (7 - (i 1).val)).2⌝)) $$ []
  · intro k acc
    exact (k.cast (trips_rest i)).elim0
  · ipureintro; rfl
  iintro %acc %hacc
  obtain rfl := hacc
  sl_exec (disch := first | sl_exact hc0 | sl_exact hc1)
  sl_step
  iapply Hk
  isplitl [H2]
  · iexists _; isplitr
    rotate_left
    · iexact H2
    · ipureintro; exact hf2'
  isplitl [H3]
  · iexists _; isplitr
    rotate_left
    · iexact H3
    · ipureintro; exact hf3
  isplitl [H4]
  · iexists _; isplitr
    rotate_left
    · iexact H4
    · ipureintro; exact hf4
  isplitl [H5]
  · iexists _; isplitr
    rotate_left
    · iexact H5
    · ipureintro; exact hf5'
  isplitl [H6]
  · iexists _; isplitr
    rotate_left
    · iexact H6
    · ipureintro; exact hf6'
  isplitl [H7]
  · iexists _; isplitr
    rotate_left
    · iexact H7
    · ipureintro; exact hf7'
  isplitl [H8]
  · iexists _; isplitr
    rotate_left
    · iexact H8
    · ipureintro; exact hf8
  isplitl [H9]
  · iexists _; isplitr
    rotate_left
    · iexact H9
    · ipureintro; exact (View.read_writes_full _ _ _ _ _).trans rfl
  isplitl [H10]
  · iexists _; isplitr
    rotate_left
    · iexact H10
    · ipureintro; exact (View.read_writes_full _ _ _ _ _).trans rfl
  · iexists _; isplitr
    rotate_left
    · iexact HS
    · ipureintro; exact hf11'

end

end Cert.KernelIdeal.Hand
-- ==== Proof.RunB.lean ====
module

public import proofs.«01_k».proof.Proof.Trip

/-! A grid point inside a head. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

section
variable (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S4096x128 .f32) (harg11 : arg11.IsWhole)

set_option maxHeartbeats 4000000 in
/-- A point that is neither its head's first nor its last. -/
theorem runB (hc0 : ¬ atStart i) (hc1 : ¬ atEnd i)
    (A : Arrays F) (x8 : Vec F S4096x128 .bf16) (xs : Vec F S4096x128 .f32)
    (E : Set ℕ) (K : PUnit → sProp 𝕄) :
    iprop(owns (c : Thread nD τ) arg2 fullShare A.q ∗ owns (c : Thread nD τ) arg3 fullShare A.k ∗ owns (c : Thread nD τ) arg4 fullShare A.v ∗ owns (c : Thread nD τ) arg5 fullShare A.o ∗ owns (c : Thread nD τ) arg6 fullShare A.lse ∗ owns (c : Thread nD τ) arg7 fullShare A.g ∗ owns (c : Thread nD τ) arg8 fullShare x8 ∗ (∃ d, owns (c : Thread nD τ) arg9 fullShare d) ∗ (∃ d, owns (c : Thread nD τ) arg10 fullShare d) ∗ owns (c : Thread nD τ) arg11 fullShare xs
      ∗ (iprop(owns (c : Thread nD τ) arg2 fullShare A.q ∗ owns (c : Thread nD τ) arg3 fullShare A.k ∗ owns (c : Thread nD τ) arg4 fullShare A.v ∗ owns (c : Thread nD τ) arg5 fullShare A.o ∗ owns (c : Thread nD τ) arg6 fullShare A.lse ∗ owns (c : Thread nD τ) arg7 fullShare A.g ∗ owns (c : Thread nD τ) arg8 fullShare x8
          ∗ owns (c : Thread nD τ) arg9 fullShare (k0_pay20 (point A (i 1).val xs).2.1) ∗ owns (c : Thread nD τ) arg10 fullShare (k0_pay21 (point A (i 1).val xs).2.2) ∗ owns (c : Thread nD τ) arg11 fullShare (point A (i 1).val xs).1) -∗ K ⟨⟩))
    ⊢ wp frame (wpE (defs₀ (F := F)) Variants.none c none) E (cc0_mla_attn_bwd i arg2 harg2 arg3 harg3 arg4 harg4 arg5 harg5 arg6 harg6 arg7 harg7 arg8 harg8 arg9 harg9 arg10 harg10 arg11 harg11) K := by
  simp only [cc0_mla_attn_bwd_eq_skeleton]; unfold cc0_mla_attn_bwd_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs, %hfs, HS⟩, Hk⟩
  have e1 := off_diagonal i
  have e2 := off_column i
  have e3 : arg3.view.readAt (Elt F) (Rect.unit (s := S512x128) ![0, 0] S512x128.size inb_S512x128_S512x128_0_0).toLoadRect f3 = A.k := (View.readAt_full _ _ _).trans hf3
  have e4 : arg4.view.readAt (Elt F) (Rect.unit (s := S512x128) ![0, 0] S512x128.size inb_S512x128_S512x128_0_0).toLoadRect f4 = A.v := (View.readAt_full _ _ _).trans hf4
  have r2 : arg2.view.readAt (Elt F) (Rect.unit (s := S4096x128) (k0_off1 i) S512x128.size (k0_off1_inb i)).toLoadRect f2 = rows A.q (i 1).val := by rw [← hf2]; exact read_rows arg2 f2 _ e1 _
  have r5 : arg5.view.readAt (Elt F) (Rect.unit (s := S4096x128) (k0_off1 i) S512x128.size (k0_off1_inb i)).toLoadRect f5 = rows A.o (i 1).val := by rw [← hf5]; exact read_rows arg5 f5 _ e1 _
  have r6 : arg6.view.readAt (Elt F) (Rect.unit (s := S4096x128) (k0_off2 i) S512x1.size (k0_off2_inb i)).toLoadRect f6 = column A.lse (i 1).val := by rw [← hf6]; exact read_column arg6 f6 _ e2 _
  have r7 : arg7.view.readAt (Elt F) (Rect.unit (s := S4096x128) (k0_off1 i) S512x128.size (k0_off1_inb i)).toLoadRect f7 = rows A.g (i 1).val := by rw [← hf7]; exact read_rows arg7 f7 _ e1 _
  have r11 : arg11.view.readAt (Elt F) (Rect.unit (s := S4096x128) (k0_off1 i) S512x128.size (k0_off1_inb i)).toLoadRect fs = rows xs (i 1).val := by rw [← hfs]; exact read_rows arg11 fs _ e1 _
  sl_exec (disch := first | sl_exact hc0 | sl_exact hc1)
  sl_for (loopInv c i arg2 arg5 arg6 arg7 arg11 A (diagonal A (i 1).val xs)) $$ [H2 H5 H6 H7 HS]
  · intro k acc
    exact trip c i arg2 harg2 arg3 harg3 arg4 harg4 arg5 harg5 arg6 harg6 arg7 harg7 arg8 harg8 arg9 harg9 arg10 harg10 arg11 harg11 A _ E k acc
  · unfold loopInv owns
    isplitl [H2]
    · iexists _; isplitr
      rotate_left
      · iexact H2
      · ipureintro; exact hf2
    isplitl [H5]
    · iexists _; isplitr
      rotate_left
      · iexact H5
      · ipureintro; exact hf5
    isplitl [H6]
    · iexists _; isplitr
      rotate_left
      · iexact H6
      · ipureintro; exact hf6
    isplitl [H7]
    · iexists _; isplitr
      rotate_left
      · iexact H7
      · ipureintro; exact hf7
    isplitl [HS]
    · iexists _; isplitr
      rotate_left
      · iexact HS
      · ipureintro
        refine (read_putRows arg11 _ _ e1 _ _ _).trans ?_
        rw [View.writes_nil, hfs]
        rfl
    · ipureintro
      rfl
  iintro %acc HI
  unfold loopInv owns
  icases HI with ⟨⟨%f2', %hf2', H2⟩, ⟨%f5', %hf5', H5⟩, ⟨%f6', %hf6', H6⟩, ⟨%f7', %hf7', H7⟩, ⟨%f11', %hf11', HS⟩, %hacc⟩
  obtain rfl := hacc
  rw [show Scf.trips (k0_t1_loop i).lb (k0_t1_loop i).ub (k0_t1_loop i).st = 7 - (i 1).val from trips_first i] at *
  sl_for (fun _ acc => iprop(⌜acc = (laters A (i 1).val (diagonal A (i 1).val xs) (7 - (i 1).val)).2⌝)) $$ []
  · intro k acc
    exact (k.cast (trips_rest i)).elim0
  · ipureintro; rfl
  iintro %acc %hacc
  obtain rfl := hacc
  sl_exec (disch := first | sl_exact hc0 | sl_exact hc1)
  sl_step
  iapply Hk
  isplitl [H2]
  · iexists _; isplitr
    rotate_left
    · iexact H2
    · ipureintro; exact hf2'
  isplitl [H3]
  · iexists _; isplitr
    rotate_left
    · iexact H3
    · ipureintro; exact hf3
  isplitl [H4]
  · iexists _; isplitr
    rotate_left
    · iexact H4
    · ipureintro; exact hf4
  isplitl [H5]
  · iexists _; isplitr
    rotate_left
    · iexact H5
    · ipureintro; exact hf5'
  isplitl [H6]
  · iexists _; isplitr
    rotate_left
    · iexact H6
    · ipureintro; exact hf6'
  isplitl [H7]
  · iexists _; isplitr
    rotate_left
    · iexact H7
    · ipureintro; exact hf7'
  isplitl [H8]
  · iexists _; isplitr
    rotate_left
    · iexact H8
    · ipureintro; exact hf8
  isplitl [H9]
  · iexists _; isplitr
    rotate_left
    · iexact H9
    · ipureintro; exact (View.read_writes_full _ _ _ _ _).trans rfl
  isplitl [H10]
  · iexists _; isplitr
    rotate_left
    · iexact H10
    · ipureintro; exact (View.read_writes_full _ _ _ _ _).trans rfl
  · iexists _; isplitr
    rotate_left
    · iexact HS
    · ipureintro; exact hf11'

end

end Cert.KernelIdeal.Hand
-- ==== Proof.RunC.lean ====
module

public import proofs.«01_k».proof.Proof.Trip

/-! The last grid point of a head. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

section
variable (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S4096x128 .f32) (harg11 : arg11.IsWhole)

set_option maxHeartbeats 4000000 in
/-- The last point of a head writes the gradient of the queries out. -/
theorem runC (hc0 : ¬ atStart i) (hc1 : atEnd i)
    (A : Arrays F) (x8 : Vec F S4096x128 .bf16) (xs : Vec F S4096x128 .f32)
    (E : Set ℕ) (K : PUnit → sProp 𝕄) :
    iprop(owns (c : Thread nD τ) arg2 fullShare A.q ∗ owns (c : Thread nD τ) arg3 fullShare A.k ∗ owns (c : Thread nD τ) arg4 fullShare A.v ∗ owns (c : Thread nD τ) arg5 fullShare A.o ∗ owns (c : Thread nD τ) arg6 fullShare A.lse ∗ owns (c : Thread nD τ) arg7 fullShare A.g ∗ owns (c : Thread nD τ) arg8 fullShare x8 ∗ (∃ d, owns (c : Thread nD τ) arg9 fullShare d) ∗ (∃ d, owns (c : Thread nD τ) arg10 fullShare d) ∗ owns (c : Thread nD τ) arg11 fullShare xs
      ∗ (iprop(owns (c : Thread nD τ) arg2 fullShare A.q ∗ owns (c : Thread nD τ) arg3 fullShare A.k ∗ owns (c : Thread nD τ) arg4 fullShare A.v ∗ owns (c : Thread nD τ) arg5 fullShare A.o ∗ owns (c : Thread nD τ) arg6 fullShare A.lse ∗ owns (c : Thread nD τ) arg7 fullShare A.g ∗ owns (c : Thread nD τ) arg8 fullShare (k0_pay22 (point A (i 1).val xs).1)
          ∗ owns (c : Thread nD τ) arg9 fullShare (k0_pay20 (point A (i 1).val xs).2.1) ∗ owns (c : Thread nD τ) arg10 fullShare (k0_pay21 (point A (i 1).val xs).2.2) ∗ owns (c : Thread nD τ) arg11 fullShare (point A (i 1).val xs).1) -∗ K ⟨⟩))
    ⊢ wp frame (wpE (defs₀ (F := F)) Variants.none c none) E (cc0_mla_attn_bwd i arg2 harg2 arg3 harg3 arg4 harg4 arg5 harg5 arg6 harg6 arg7 harg7 arg8 harg8 arg9 harg9 arg10 harg10 arg11 harg11) K := by
  simp only [cc0_mla_attn_bwd_eq_skeleton]; unfold cc0_mla_attn_bwd_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs, %hfs, HS⟩, Hk⟩
  have e1 := off_diagonal i
  have e2 := off_column i
  have e3 : arg3.view.readAt (Elt F) (Rect.unit (s := S512x128) ![0, 0] S512x128.size inb_S512x128_S512x128_0_0).toLoadRect f3 = A.k := (View.readAt_full _ _ _).trans hf3
  have e4 : arg4.view.readAt (Elt F) (Rect.unit (s := S512x128) ![0, 0] S512x128.size inb_S512x128_S512x128_0_0).toLoadRect f4 = A.v := (View.readAt_full _ _ _).trans hf4
  have r2 : arg2.view.readAt (Elt F) (Rect.unit (s := S4096x128) (k0_off1 i) S512x128.size (k0_off1_inb i)).toLoadRect f2 = rows A.q (i 1).val := by rw [← hf2]; exact read_rows arg2 f2 _ e1 _
  have r5 : arg5.view.readAt (Elt F) (Rect.unit (s := S4096x128) (k0_off1 i) S512x128.size (k0_off1_inb i)).toLoadRect f5 = rows A.o (i 1).val := by rw [← hf5]; exact read_rows arg5 f5 _ e1 _
  have r6 : arg6.view.readAt (Elt F) (Rect.unit (s := S4096x128) (k0_off2 i) S512x1.size (k0_off2_inb i)).toLoadRect f6 = column A.lse (i 1).val := by rw [← hf6]; exact read_column arg6 f6 _ e2 _
  have r7 : arg7.view.readAt (Elt F) (Rect.unit (s := S4096x128) (k0_off1 i) S512x128.size (k0_off1_inb i)).toLoadRect f7 = rows A.g (i 1).val := by rw [← hf7]; exact read_rows arg7 f7 _ e1 _
  have r11 : arg11.view.readAt (Elt F) (Rect.unit (s := S4096x128) (k0_off1 i) S512x128.size (k0_off1_inb i)).toLoadRect fs = rows xs (i 1).val := by rw [← hfs]; exact read_rows arg11 fs _ e1 _
  sl_exec (disch := first | sl_exact hc0 | sl_exact hc1)
  sl_for (loopInv c i arg2 arg5 arg6 arg7 arg11 A (diagonal A (i 1).val xs)) $$ [H2 H5 H6 H7 HS]
  · intro k acc
    exact trip c i arg2 harg2 arg3 harg3 arg4 harg4 arg5 harg5 arg6 harg6 arg7 harg7 arg8 harg8 arg9 harg9 arg10 harg10 arg11 harg11 A _ E k acc
  · unfold loopInv owns
    isplitl [H2]
    · iexists _; isplitr
      rotate_left
      · iexact H2
      · ipureintro; exact hf2
    isplitl [H5]
    · iexists _; isplitr
      rotate_left
      · iexact H5
      · ipureintro; exact hf5
    isplitl [H6]
    · iexists _; isplitr
      rotate_left
      · iexact H6
      · ipureintro; exact hf6
    isplitl [H7]
    · iexists _; isplitr
      rotate_left
      · iexact H7
      · ipureintro; exact hf7
    isplitl [HS]
    · iexists _; isplitr
      rotate_left
      · iexact HS
      · ipureintro
        refine (read_putRows arg11 _ _ e1 _ _ _).trans ?_
        rw [View.writes_nil, hfs]
        rfl
    · ipureintro
      rfl
  iintro %acc HI
  unfold loopInv owns
  icases HI with ⟨⟨%f2', %hf2', H2⟩, ⟨%f5', %hf5', H5⟩, ⟨%f6', %hf6', H6⟩, ⟨%f7', %hf7', H7⟩, ⟨%f11', %hf11', HS⟩, %hacc⟩
  obtain rfl := hacc
  rw [show Scf.trips (k0_t1_loop i).lb (k0_t1_loop i).ub (k0_t1_loop i).st = 7 - (i 1).val from trips_first i] at *
  sl_for (fun _ acc => iprop(⌜acc = (laters A (i 1).val (diagonal A (i 1).val xs) (7 - (i 1).val)).2⌝)) $$ []
  · intro k acc
    exact (k.cast (trips_rest i)).elim0
  · ipureintro; rfl
  iintro %acc %hacc
  obtain rfl := hacc
  sl_exec (disch := first | sl_exact hc0 | sl_exact hc1)
  sl_step
  iapply Hk
  isplitl [H2]
  · iexists _; isplitr
    rotate_left
    · iexact H2
    · ipureintro; exact hf2'
  isplitl [H3]
  · iexists _; isplitr
    rotate_left
    · iexact H3
    · ipureintro; exact hf3
  isplitl [H4]
  · iexists _; isplitr
    rotate_left
    · iexact H4
    · ipureintro; exact hf4
  isplitl [H5]
  · iexists _; isplitr
    rotate_left
    · iexact H5
    · ipureintro; exact hf5'
  isplitl [H6]
  · iexists _; isplitr
    rotate_left
    · iexact H6
    · ipureintro; exact hf6'
  isplitl [H7]
  · iexists _; isplitr
    rotate_left
    · iexact H7
    · ipureintro; exact hf7'
  isplitl [H8]
  · iexists _; isplitr
    rotate_left
    · iexact H8
    · ipureintro; exact (View.read_writes_full _ _ _ _ _).trans (congrArg k0_pay22 ((View.readAt_full _ _ _).trans hf11'))
  isplitl [H9]
  · iexists _; isplitr
    rotate_left
    · iexact H9
    · ipureintro; exact (View.read_writes_full _ _ _ _ _).trans rfl
  isplitl [H10]
  · iexists _; isplitr
    rotate_left
    · iexact H10
    · ipureintro; exact (View.read_writes_full _ _ _ _ _).trans rfl
  · iexists _; isplitr
    rotate_left
    · iexact HS
    · ipureintro; exact hf11'

end

end Cert.KernelIdeal.Hand
-- ==== Proof.Data.lean ====
module

public import proofs.«01_k».proof.Proof.RunA
public import proofs.«01_k».proof.Proof.RunB
public import proofs.«01_k».proof.Proof.RunC
public import Idealize.ShloMosaic.Lib.Claim

/-! What the buffers hold at every grid point of the backward call: the three cases of the body put together. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first block of keys of a head is visited at the points ≡ 0 (mod 8). -/
theorem start_iff (t : Fin cfg0.N) : atStart (grid0.coords t) ↔ t.val % 8 = 0 := by
  have ht : t.val < 64 := Nat.lt_of_lt_of_eq t.isLt N_0
  have e1 : (grid0.coords t 1).val = t.val / 1 % 8 := Pipeline.Grid.coords_val t 1 (by decide) rfl
  simp only [atStart, e1]
  word_cmp

/-- The last block of keys of a head is visited at the points ≡ 7 (mod 8). -/
theorem end_iff (t : Fin cfg0.N) : atEnd (grid0.coords t) ↔ t.val % 8 = 7 := by
  have ht : t.val < 64 := Nat.lt_of_lt_of_eq t.isLt N_0
  have e1 : (grid0.coords t 1).val = t.val / 1 % 8 := Pipeline.Grid.coords_val t 1 (by decide) rfl
  simp only [atEnd, k0_cond2, e1]
  word_cmp

/-- Away from the last block the window of the queries' gradient is left alone … -/
theorem dq_idle : ∀ t : Fin cfg0.N, ¬ atEnd (grid0.coords t) → cfg0.idle 6 (grid0.coords t) = true := by decide +kernel
/-- … and not written back. -/
theorem dq_kept : ∀ t : Fin cfg0.N, ¬ atEnd (grid0.coords t) → (cfg0.win 6).flush t = false := by decide +kernel
/-- At the last block it is stored into. -/
theorem dq_live : ∀ t : Fin cfg0.N, atEnd (grid0.coords t) → cfg0.idle 6 (grid0.coords t) = false := by decide +kernel

/-- Window `w`'s staging buffer at point `t`. -/
abbrev mem0 (t : Fin cfg0.N) : Memref sig .tc .vmem S4096x128 .bf16 := win0_0.stage (cfg0.slots t 0)
abbrev mem1 (t : Fin cfg0.N) : Memref sig .tc .vmem S512x128 .bf16 := win0_1.stage (cfg0.slots t 1)
abbrev mem2 (t : Fin cfg0.N) : Memref sig .tc .vmem S512x128 .bf16 := win0_2.stage (cfg0.slots t 2)
abbrev mem3 (t : Fin cfg0.N) : Memref sig .tc .vmem S4096x128 .bf16 := win0_3.stage (cfg0.slots t 3)
abbrev mem4 (t : Fin cfg0.N) : Memref sig .tc .vmem S4096x128 .f32 := win0_4.stage (cfg0.slots t 4)
abbrev mem5 (t : Fin cfg0.N) : Memref sig .tc .vmem S4096x128 .bf16 := win0_5.stage (cfg0.slots t 5)
abbrev mem6 (t : Fin cfg0.N) : Memref sig .tc .vmem S4096x128 .bf16 := win0_6.stage (cfg0.slots t 6)
abbrev mem7 (t : Fin cfg0.N) : Memref sig .tc .vmem S512x128 .bf16 := win0_7.stage (cfg0.slots t 7)
abbrev mem8 (t : Fin cfg0.N) : Memref sig .tc .vmem S512x128 .bf16 := win0_8.stage (cfg0.slots t 8)
/-- The accumulator of the queries' gradient. -/
abbrev accM : Memref sig .tc .vmem S4096x128 .f32 := Memref.whole cc0_scratch0

/-- What the region gives the body besides its windows: the accumulator and the generator's register. -/
theorem loan_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-- The blocks the body reads at point `t`. -/
def inputs (c : Dev nD) (t : Fin cfg0.N) : Arrays F :=
  ⟨iblk m c 0 t, iblk m c 1 t, iblk m c 2 t, iblk m c 3 t, iblk m c 4 t, iblk m c 5 t⟩

/-- What the accumulator holds before point `n` of the run: each head starts again from zero. -/
def accumulated (c : Dev nD) : ℕ → Vec F S4096x128 .f32
  | 0 => k0_pay23
  | n + 1 => if h : n < cfg0.N then
      (point (inputs m c ⟨n, h⟩) (grid0.coords ⟨n, h⟩ 1).val (if n % 8 = 0 then k0_pay23 else accumulated c n)).1
    else k0_pay23

/-- The accumulator and the two blocks of gradients after the body at point `t`. -/
def left (c : Dev nD) (t : Fin cfg0.N) : State F :=
  point (inputs m c t) (grid0.coords t 1).val (if t.val % 8 = 0 then k0_pay23 else accumulated m c t.val)

theorem accumulated_succ (c : Dev nD) (t : Fin cfg0.N) : accumulated m c (t.val + 1) = (left m c t).1 := by
  show (if h : t.val < cfg0.N then _ else _) = _
  rw [dif_pos t.isLt]; rfl

/-- The invariant between the points: after the first point the accumulator's contents are known. -/
def between (c : Dev nD) : (n : ℕ) → n ≤ cfg0.N → sProp 𝕄
  | 0, _ => Pipeline.ΦA spec0 c
  | n + 1, _ => iprop(iprop(owns (c : Thread nD τ) accM fullShare (accumulated m c (n + 1))) ∗ (∃ r, prngReg c r))

theorem between_pos (c : Dev nD) (n : ℕ) (h : n ≤ cfg0.N) (hz : n ≠ 0) :
    between m c n h = iprop(iprop(owns (c : Thread nD τ) accM fullShare (accumulated m c n)) ∗ (∃ r, prngReg c r)) := by
  cases n with
  | zero => exact absurd rfl hz
  | succ n => rfl

/-- At whatever point, the accumulator is there. -/
theorem between_some (c : Dev nD) (n : ℕ) (h : n ≤ cfg0.N) :
    between m c n h ⊢ iprop(iprop((∃ d, owns (c : Thread nD τ) accM fullShare d)) ∗ (∃ r, prngReg c r)) := by
  cases n with
  | zero =>
    show Pipeline.ΦA spec0 c ⊢ _
    rw [loan_eq]
  | succ n =>
    rw [between_pos m c _ h (Nat.succ_ne_zero n)]
    iintro ⟨HS, Hg⟩
    isplitl [HS]
    · iexists _; iexact HS
    iexact Hg

/-- The data of the pipeline's proof. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay22 (left m c t).1
    | ⟨7, _⟩ => k0_pay20 (left m c t).2.1
    | ⟨8, _⟩ => k0_pay21 (left m c t).2.2
  Φ t := between m c t.val (Nat.le_of_lt_succ t.isLt)
  q _ := fullShare
  owed _ := 0

theorem arrays_eq (c : Dev nD) (w : Fin cfg0.W) : (dats m 0 c).A w = V m c (Pipeline.arrRef spec0 w) := by
  dsimp only [dats]

theorem between_castSucc (c : Dev nD) (t : Fin cfg0.N) :
    (dats m 0 c).Φ t.castSucc = between m c t.val (Nat.le_of_lt t.isLt) := by
  dsimp only [dats]; exact Pipeline.Dat.Φ_castSucc (between m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay22 (left m c t).1 := by dsimp only [dats]
theorem after_7 (c : Dev nD) (t : Fin cfg0.N) : (dats m 0 c).after 7 t = k0_pay20 (left m c t).2.1 := by dsimp only [dats]
theorem after_8 (c : Dev nD) (t : Fin cfg0.N) : (dats m 0 c).after 8 t = k0_pay21 (left m c t).2.2 := by dsimp only [dats]

theorem before_0 (c : Dev nD) (t : Fin cfg0.N) (d) : (dats m 0 c).before 0 t d = iblk m c 0 t :=
  before0_0_of m (dats m 0 c) (arrays_eq m c 0) (after_0 m c) t d
theorem before_1 (c : Dev nD) (t : Fin cfg0.N) (d) : (dats m 0 c).before 1 t d = iblk m c 1 t :=
  before0_1_of m (dats m 0 c) (arrays_eq m c 1) (after_1 m c) t d
theorem before_2 (c : Dev nD) (t : Fin cfg0.N) (d) : (dats m 0 c).before 2 t d = iblk m c 2 t :=
  before0_2_of m (dats m 0 c) (arrays_eq m c 2) (after_2 m c) t d
theorem before_3 (c : Dev nD) (t : Fin cfg0.N) (d) : (dats m 0 c).before 3 t d = iblk m c 3 t :=
  before0_3_of m (dats m 0 c) (arrays_eq m c 3) (after_3 m c) t d
theorem before_4 (c : Dev nD) (t : Fin cfg0.N) (d) : (dats m 0 c).before 4 t d = iblk m c 4 t :=
  before0_4_of m (dats m 0 c) (arrays_eq m c 4) (after_4 m c) t d
theorem before_5 (c : Dev nD) (t : Fin cfg0.N) (d) : (dats m 0 c).before 5 t d = iblk m c 5 t :=
  before0_5_of m (dats m 0 c) (arrays_eq m c 5) (after_5 m c) t d

theorem leaves_0 (c : Dev nD) (t : Fin cfg0.N) : (dats m 0 c).leavesExact 0 t = owns (c : Thread nD τ) (mem0 t) fullShare (iblk m c 0 t) := by
  rw [← after_0 m c t] <;> unfold Dat.leavesExact <;> rw [show cfg0.idle 0 (grid0.coords t) = false from rfl]
theorem leaves_1 (c : Dev nD) (t : Fin cfg0.N) : (dats m 0 c).leavesExact 1 t = owns (c : Thread nD τ) (mem1 t) fullShare (iblk m c 1 t) := by
  rw [← after_1 m c t] <;> unfold Dat.leavesExact <;> rw [show cfg0.idle 1 (grid0.coords t) = false from rfl]
theorem leaves_2 (c : Dev nD) (t : Fin cfg0.N) : (dats m 0 c).leavesExact 2 t = owns (c : Thread nD τ) (mem2 t) fullShare (iblk m c 2 t) := by
  rw [← after_2 m c t] <;> unfold Dat.leavesExact <;> rw [show cfg0.idle 2 (grid0.coords t) = false from rfl]
theorem leaves_3 (c : Dev nD) (t : Fin cfg0.N) : (dats m 0 c).leavesExact 3 t = owns (c : Thread nD τ) (mem3 t) fullShare (iblk m c 3 t) := by
  rw [← after_3 m c t] <;> unfold Dat.leavesExact <;> rw [show cfg0.idle 3 (grid0.coords t) = false from rfl]
theorem leaves_4 (c : Dev nD) (t : Fin cfg0.N) : (dats m 0 c).leavesExact 4 t = owns (c : Thread nD τ) (mem4 t) fullShare (iblk m c 4 t) := by
  rw [← after_4 m c t] <;> unfold Dat.leavesExact <;> rw [show cfg0.idle 4 (grid0.coords t) = false from rfl]
theorem leaves_5 (c : Dev nD) (t : Fin cfg0.N) : (dats m 0 c).leavesExact 5 t = owns (c : Thread nD τ) (mem5 t) fullShare (iblk m c 5 t) := by
  rw [← after_5 m c t] <;> unfold Dat.leavesExact <;> rw [show cfg0.idle 5 (grid0.coords t) = false from rfl]
theorem leaves_7 (c : Dev nD) (t : Fin cfg0.N) : (dats m 0 c).leavesExact 7 t = owns (c : Thread nD τ) (mem7 t) fullShare (k0_pay20 (left m c t).2.1) := by
  rw [← after_7 m c t] <;> unfold Dat.leavesExact <;> rw [show cfg0.idle 7 (grid0.coords t) = false from rfl]
theorem leaves_8 (c : Dev nD) (t : Fin cfg0.N) : (dats m 0 c).leavesExact 8 t = owns (c : Thread nD τ) (mem8 t) fullShare (k0_pay21 (left m c t).2.2) := by
  rw [← after_8 m c t] <;> unfold Dat.leavesExact <;> rw [show cfg0.idle 8 (grid0.coords t) = false from rfl]

theorem leaves_6 (c : Dev nD) (t : Fin cfg0.N) (h : atEnd (grid0.coords t)) :
    (dats m 0 c).leavesExact 6 t = owns (c : Thread nD τ) (mem6 t) fullShare (k0_pay22 (left m c t).1) := by
  rw [← after_6 m c t]; unfold Dat.leavesExact; rw [dq_live t h]

end Cert.KernelIdeal.Hand

end
-- ==== Proof.Launch.lean ====
module

public import proofs.«01_k».proof.Proof.Data

/-! The backward call runs: the body at every grid point, and the launch. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point `t`, … -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d)))

/-- … and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at any point, by the case the point is in. -/
theorem body_triple (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = between m c (t.val + 1) t.isLt from rfl, between_pos m c _ _ (Nat.succ_ne_zero _), accumulated_succ]
  by_cases h0 : t.val % 8 = 0
  · have h1 : ¬ t.val % 8 = 7 := by omega
    rw [leaves_0 m c t, leaves_1 m c t, leaves_2 m c t, leaves_3 m c t, leaves_4 m c t, leaves_5 m c t, leaves_7 m c t, leaves_8 m c t]
    rw [Dat.leavesExact_idle (dats m 0 c) 6 t (dq_idle t (fun h => h1 ((end_iff t).mp h))) (dq_kept t (fun h => h1 ((end_iff t).mp h)))]
    rw [between_castSucc m c t]
    have hl : left m c t = point (inputs m c t) (grid0.coords t 1).val k0_pay23 := by unfold left; rw [if_pos h0]
    rw [hl]
    iintro ⟨HB, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HB := (between_some m c _ _) $$ HB
    icases HB with ⟨HS, Hg⟩
    iapply (runA c (grid0.coords t) (mem0 t) (hstage0_0 ((cfg0.slots t 0).cast nbuf0_0)) (mem1 t) (hstage0_1 ((cfg0.slots t 1).cast nbuf0_1)) (mem2 t) (hstage0_2 ((cfg0.slots t 2).cast nbuf0_2)) (mem3 t) (hstage0_3 ((cfg0.slots t 3).cast nbuf0_3)) (mem4 t) (hstage0_4 ((cfg0.slots t 4).cast nbuf0_4)) (mem5 t) (hstage0_5 ((cfg0.slots t 5).cast nbuf0_5)) (mem6 t) (hstage0_6 ((cfg0.slots t 6).cast nbuf0_6)) (mem7 t) (hstage0_7 ((cfg0.slots t 7).cast nbuf0_7)) (mem8 t) (hstage0_8 ((cfg0.slots t 8).cast nbuf0_8)) accM (Memref.isWhole_whole _) ((start_iff t).mpr h0) (fun h => h1 ((end_iff t).mp h)) (inputs m c t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iexact H8
  by_cases h1 : t.val % 8 = 7
  · skip
    rw [leaves_0 m c t, leaves_1 m c t, leaves_2 m c t, leaves_3 m c t, leaves_4 m c t, leaves_5 m c t, leaves_7 m c t, leaves_8 m c t]
    rw [leaves_6 m c t ((end_iff t).mpr h1)]
    have hz : t.val ≠ 0 := fun h => h0 (by rw [h])
    rw [between_castSucc m c t, between_pos m c _ _ hz]
    have hl : left m c t = point (inputs m c t) (grid0.coords t 1).val (accumulated m c t.val) := by unfold left; rw [if_neg h0]
    rw [hl]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runC c (grid0.coords t) (mem0 t) (hstage0_0 ((cfg0.slots t 0).cast nbuf0_0)) (mem1 t) (hstage0_1 ((cfg0.slots t 1).cast nbuf0_1)) (mem2 t) (hstage0_2 ((cfg0.slots t 2).cast nbuf0_2)) (mem3 t) (hstage0_3 ((cfg0.slots t 3).cast nbuf0_3)) (mem4 t) (hstage0_4 ((cfg0.slots t 4).cast nbuf0_4)) (mem5 t) (hstage0_5 ((cfg0.slots t 5).cast nbuf0_5)) (mem6 t) (hstage0_6 ((cfg0.slots t 6).cast nbuf0_6)) (mem7 t) (hstage0_7 ((cfg0.slots t 7).cast nbuf0_7)) (mem8 t) (hstage0_8 ((cfg0.slots t 8).cast nbuf0_8)) accM (Memref.isWhole_whole _) (fun h => h0 ((start_iff t).mp h)) ((end_iff t).mpr h1) (inputs m c t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · skip
    rw [leaves_0 m c t, leaves_1 m c t, leaves_2 m c t, leaves_3 m c t, leaves_4 m c t, leaves_5 m c t, leaves_7 m c t, leaves_8 m c t]
    rw [Dat.leavesExact_idle (dats m 0 c) 6 t (dq_idle t (fun h => h1 ((end_iff t).mp h))) (dq_kept t (fun h => h1 ((end_iff t).mp h)))]
    have hz : t.val ≠ 0 := fun h => h0 (by rw [h])
    rw [between_castSucc m c t, between_pos m c _ _ hz]
    have hl : left m c t = point (inputs m c t) (grid0.coords t 1).val (accumulated m c t.val) := by unfold left; rw [if_neg h0]
    rw [hl]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB c (grid0.coords t) (mem0 t) (hstage0_0 ((cfg0.slots t 0).cast nbuf0_0)) (mem1 t) (hstage0_1 ((cfg0.slots t 1).cast nbuf0_1)) (mem2 t) (hstage0_2 ((cfg0.slots t 2).cast nbuf0_2)) (mem3 t) (hstage0_3 ((cfg0.slots t 3).cast nbuf0_3)) (mem4 t) (hstage0_4 ((cfg0.slots t 4).cast nbuf0_4)) (mem5 t) (hstage0_5 ((cfg0.slots t 5).cast nbuf0_5)) (mem6 t) (hstage0_6 ((cfg0.slots t 6).cast nbuf0_6)) (mem7 t) (hstage0_7 ((cfg0.slots t 7).cast nbuf0_7)) (mem8 t) (hstage0_8 ((cfg0.slots t 8).cast nbuf0_8)) accM (Memref.isWhole_whole _) (fun h => h0 ((start_iff t).mp h)) (fun h => h1 ((end_iff t).mp h)) (inputs m c t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iexact H8

/-- The body table's row at point `t`'s slots is the body. -/
theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_triple m c t) rfl .rfl fun _ => .rfl

theorem region_in (c : Dev nD) : Pipeline.ΦA spec0 c ⊢ (dats m 0 c).Φ 0 := by
  rw [show (dats m 0 c).Φ 0 = between m c 0 (Nat.zero_le _) from rfl]
  exact Idealize.SL.BI.Entails.refl _

theorem region_out (c : Dev nD) : (dats m 0 c).Φ (Fin.last cfg0.N) ⊢ Pipeline.ΦA spec0 c := by
  rw [show (dats m 0 c).Φ (Fin.last cfg0.N) = between m c (Fin.last cfg0.N).val (Nat.le_of_lt_succ (Fin.last cfg0.N).isLt) from rfl, loan_eq]
  exact between_some m c _ _

set_option backward.isDefEq.respectTransparency.types false in
/-- The whole program: the host lines, the region, the host lines after it; and every counter at rest at the end. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := arrays_eq m) (hin := region_in m) (hout := region_out m) (hQ' := fun _ h => h)

/-- The argument arrays end as they began, and every counter at rest. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (arrays_eq m) ((θ_run defs _ _).mono (fun _ h => h.1) (run_quiescent m ρ)))
    ((θ_run defs _ _).mono (fun _ h => h.2) (run_quiescent m ρ))

end Cert.KernelIdeal.Hand

end
-- ==== Proof.SameBody.lean ====
module

public import Idealize.ShloMosaic.PureOps.BitExact
public import proofs.«01_k».proof.Kernel
public import proofs.«01_k».proof.KernelIdeal
public import proofs.«01_k».proof.Proof.Gen.Kernel
public import proofs.«01_k».proof.Proof.Gen.KernelIdeal

/-! In floats, where a named constant is the word it was printed with, the idealized kernel's body is the kernel's. -/

@[expose] public section

set_option maxRecDepth 16384

noncomputable section

namespace Cert.Proof

open Idealize.ShloMosaic Idealize.ShloMosaic.TcCoe Idealize.SL.Sem

/-- In floats a named constant is the word it was printed with. -/
abbrev wordNamed : Named Bits := ⟨fun _ _ _ bits => Scalar.ofBits _ bits⟩

attribute [local instance] Cert.Kernel.Gen.facts Cert.KernelIdeal.Gen.facts wordNamed

theorem same_body : @Cert.Kernel.cc0_mla_attn_bwd Bits _ _ = @Cert.KernelIdeal.cc0_mla_attn_bwd Bits _ _ _ := by
  unfold Cert.Kernel.cc0_mla_attn_bwd Cert.KernelIdeal.cc0_mla_attn_bwd
  rfl

end Cert.Proof

end
-- ==== Proof.Same.lean ====
module

public import proofs.«01_k».proof.Proof.SameBody
public import proofs.«01_k».proof.Proof.Gen.Kernel.Launch
public import proofs.«01_k».proof.Proof.Gen.KernelIdeal.Launch

/-! In floats the idealized program is the program. -/

@[expose] public section

set_option maxRecDepth 16384

noncomputable section

namespace Cert.Proof

open Idealize.ShloMosaic Idealize.ShloMosaic.TcCoe Idealize.SL.Sem

attribute [local instance] Cert.Kernel.Gen.facts Cert.KernelIdeal.Gen.facts wordNamed

set_option maxHeartbeats 1000000 in
theorem same_kernels : (Cert.Kernel.defs₀ (F := Bits)) = Cert.KernelIdeal.defs₀ (F := Bits) := by
  unfold Cert.Kernel.defs₀ Cert.KernelIdeal.defs₀
  refine congrArg Defs.onTc ?_
  funext l a
  match l, a with
  | 0, (t, s) =>
    show Cert.Kernel.cc0_mla_attn_bwd (F := Bits) _ _ _ _ _ _ _ _ _ _ _ _ _ _ _ _ _ _ _ _ _ = _
    rw [same_body]
    rfl

theorem same_defs : (Cert.Kernel.defs (F := Bits)) = Cert.KernelIdeal.defs (F := Bits) := by
  unfold Cert.Kernel.defs Cert.KernelIdeal.defs
  exact congrArg (Pipeline.defs (Cert.KernelIdeal.pcfgs (F := Bits))) same_kernels

set_option maxHeartbeats 1000000 in
theorem same_ops0 : (Cert.Kernel.Gen.hostOps0 (F := Bits)) = Cert.KernelIdeal.Gen.hostOps0 (F := Bits) := rfl
set_option maxHeartbeats 1000000 in
theorem same_ops1 : (Cert.Kernel.Gen.hostOps0_1 (F := Bits)) = Cert.KernelIdeal.Gen.hostOps0_1 (F := Bits) := rfl
set_option maxHeartbeats 1000000 in
theorem same_ops2 : (Cert.Kernel.Gen.hostOps0_2 (F := Bits)) = Cert.KernelIdeal.Gen.hostOps0_2 (F := Bits) := rfl
set_option maxHeartbeats 1000000 in
theorem same_ops3 : (Cert.Kernel.Gen.hostOps1 (F := Bits)) = Cert.KernelIdeal.Gen.hostOps1 (F := Bits) := rfl

theorem same_main : (Cert.Kernel.main (F := Bits)) = Cert.KernelIdeal.main (F := Bits) := by
  funext c
  refine (Cert.Kernel.Gen.main_chain c).trans (Eq.trans ?_ (Cert.KernelIdeal.Gen.main_chain c).symm)
  rw [same_ops0, same_ops1, same_ops2, same_ops3]
  rfl

end Cert.Proof

end
-- ==== Proof.Frames.lean ====
module

public import proofs.«01_k».proof.Defs
public import proofs.«01_k».proof.Proof.Gen.Kernel
public import proofs.«01_k».proof.Proof.Gen.ReferenceIdeal.Run
public import proofs.«01_k».proof.Proof.Launch
public import proofs.«01_k».proof.Proof.Same

/-! The frames: the kernel in floats is the idealized kernel with its two named constants read as their words. -/

@[expose] public section

set_option maxRecDepth 16384

noncomputable section

namespace Cert.Proof

open Idealize.ShloMosaic Idealize.ShloMosaic.TcCoe Idealize.SL.Sem

attribute [local instance] Cert.Kernel.Gen.facts Cert.KernelIdeal.Gen.facts Cert.ReferenceIdeal.Gen.facts

theorem frame_ideal : Cert.quiescent_KernelIdeal :=
  fun m ρ _ => Cert.KernelIdeal.Hand.run_frame (F := Ideal) m ρ

theorem frame_kernel : Cert.quiescent_Kernel := by
  intro m ρ _
  letI := wordNamed
  have h := Cert.KernelIdeal.Hand.run_frame (F := Bits) m ρ
  rw [← same_defs, ← same_main] at h
  exact h

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem preserved : Cert.preserves_Kernel_KernelIdeal :=
  ⟨IdealRules.named_const.statement Cert.KernelIdeal.κ "mask" .f32 0xF149F2CA#32 ⊥ rfl,
    IdealRules.named_const.statement Cert.KernelIdeal.κ "ln2" .f32 0x3F317218#32 ((Real.log 2 : ℝ) : EReal) rfl⟩

end Cert.Proof

end
-- ==== Proof.Softmax.lean ====
module

public import Idealize.ShloMosaic.Lib.Pointwise
public import Idealize.ShloMosaic.Lib.WordCmp

/-!
Causal softmax attention of one head and its gradients, over the reals. The arrays are functions of a
row and a lane; the head has 4096 rows of 128 lanes. A key `c` is seen from the row `i` where `c ≤ i`.
-/

@[expose] public section

noncomputable section

namespace Cert.Attn

/-- A head's array: a row and a lane. -/
abbrev Mat := ℕ → ℕ → ℝ

/-- The square root of 96, by which the scores are divided. -/
def root : ℝ := Real.sqrt 96

theorem root_pos : 0 < root := Real.sqrt_pos.mpr (by norm_num)
theorem root_ne : root ≠ 0 := root_pos.ne'
theorem log2_pos : 0 < Real.log 2 := Real.log_pos (by norm_num)
theorem log2_ne : Real.log 2 ≠ 0 := log2_pos.ne'

variable (q k v g : Mat)

/-- The score of key `c` from row `i`. -/
def score (i c : ℕ) : ℝ := (∑ d : Fin 128, q i d * k c d) / root
/-- Its exponential, zero where the key is not seen. -/
def weight (i c : ℕ) : ℝ := if c ≤ i then Real.exp (score q k i c) else 0
/-- The row's sum of weights. -/
def total (i : ℕ) : ℝ := ∑ c : Fin 4096, weight q k i c
/-- The softmax. -/
def prob (i c : ℕ) : ℝ := weight q k i c / total q k i
/-- The attention's output. -/
def out (i d : ℕ) : ℝ := ∑ c : Fin 4096, prob q k i c * v c d
/-- The gradient of the softmax's entry. -/
def gain (i c : ℕ) : ℝ := ∑ d : Fin 128, g i d * v c d
/-- The gradient of the score. -/
def slope (i c : ℕ) : ℝ := prob q k i c * (gain v g i c - ∑ c' : Fin 4096, prob q k i c' * gain v g i c')
/-- The gradient of the queries. -/
def gradQ (i d : ℕ) : ℝ := (∑ c : Fin 4096, slope q k v g i c * k c d) / root
/-- The gradient of the keys. -/
def gradK (c d : ℕ) : ℝ := (∑ i : Fin 4096, slope q k v g i c * q i d) / root
/-- The gradient of the values. -/
def gradV (c d : ℕ) : ℝ := ∑ i : Fin 4096, prob q k i c * g i d

theorem weight_nonneg (i c : ℕ) : 0 ≤ weight q k i c := by
  unfold weight; split
  · exact (Real.exp_pos _).le
  · exact le_refl _

theorem total_pos {i : ℕ} (hi : i < 4096) : 0 < total q k i := by
  refine Finset.sum_pos' (fun c _ => weight_nonneg q k i c) ⟨⟨i, hi⟩, Finset.mem_univ _, ?_⟩
  show 0 < weight q k i i
  rw [weight, if_pos (le_refl i)]; exact Real.exp_pos _

theorem prob_hidden {i c : ℕ} (h : i < c) : prob q k i c = 0 := by
  rw [prob, weight, if_neg (by omega), zero_div]

theorem slope_hidden {i c : ℕ} (h : i < c) : slope q k v g i c = 0 := by
  rw [slope, prob_hidden q k h, zero_mul]

/-- The sum over the lanes of gradient times output is the softmax's mean of the gains. -/
theorem sum_out (i : ℕ) : ∑ d : Fin 128, g i d * out q k v i d = ∑ c : Fin 4096, prob q k i c * gain v g i c := by
  simp only [out, gain, Finset.mul_sum]
  rw [Finset.sum_comm]
  exact Finset.sum_congr rfl fun c _ => Finset.sum_congr rfl fun d _ => by ring

/-- The kernel's softmax: a power of two of the scaled score less the row's logarithm to base two. -/
theorem prob_pow {i c : ℕ} (hi : i < 4096) (h : c ≤ i) :
    Real.rpow 2 ((∑ d : Fin 128, q i d / (Real.log 2 * root) * k c d) - Real.log (total q k i) / Real.log 2) = prob q k i c := by
  have hs : (∑ d : Fin 128, q i d / (Real.log 2 * root) * k c d) = score q k i c / Real.log 2 := by
    rw [score, Finset.sum_div, Finset.sum_div]
    refine Finset.sum_congr rfl fun d _ => ?_
    have := root_ne; have := log2_ne
    field_simp
  rw [hs]
  show (2 : ℝ) ^ (score q k i c / Real.log 2 - Real.log (total q k i) / Real.log 2) = _
  rw [Real.rpow_def_of_pos (by norm_num : (0 : ℝ) < 2), ← sub_div, mul_div_cancel₀ _ log2_ne, Real.exp_sub,
    Real.exp_log (total_pos q k hi), prob, weight, if_pos h]

/-- Shifting every score by `M` scales the weights. -/
theorem sum_shift (M : ℝ) (i : ℕ) : ∑ c : Fin 4096, weight q k i c / Real.exp M = total q k i / Real.exp M := by
  rw [total, Finset.sum_div]

theorem prob_shift (M : ℝ) (i c : ℕ) :
    weight q k i c / Real.exp M / (total q k i / Real.exp M) = prob q k i c := by
  rw [prob]; exact div_div_div_cancel_right₀ (Real.exp_pos M).ne' _ _

theorem log_shift (M : ℝ) {i : ℕ} (hi : i < 4096) : M + Real.log (total q k i / Real.exp M) = Real.log (total q k i) := by
  rw [Real.log_div (total_pos q k hi).ne' (Real.exp_pos M).ne', Real.log_exp]; ring

/-- The gradient through a softmax written as a quotient of exponentials. -/
theorem slope_quotient (M : ℝ) {i : ℕ} (hi : i < 4096) (c : ℕ) :
    (gain v g i c / (total q k i / Real.exp M)
        + -(∑ c' : Fin 4096, gain v g i c' * (1 / (total q k i / Real.exp M * (total q k i / Real.exp M))) * (weight q k i c' / Real.exp M)))
      * (weight q k i c / Real.exp M) = slope q k v g i c := by
  have hZ := (total_pos q k hi).ne'
  have hM := (Real.exp_pos M).ne'
  have hs : (∑ c' : Fin 4096, gain v g i c' * (1 / (total q k i / Real.exp M * (total q k i / Real.exp M))) * (weight q k i c' / Real.exp M))
      = (∑ c' : Fin 4096, prob q k i c' * gain v g i c') / (total q k i / Real.exp M) := by
    rw [Finset.sum_div]
    refine Finset.sum_congr rfl fun c' _ => ?_
    rw [prob]; field_simp
  rw [hs, slope, prob]
  generalize (∑ c' : Fin 4096, prob q k i c' * gain v g i c') = T
  field_simp
  ring

/-! ### Sums of reals among the extended reals -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum over the first `n` blocks of 512. -/
theorem sum_blocks_succ (f : ℕ → ℝ) (n : ℕ) :
    ∑ i ∈ Finset.range ((n + 1) * 512), f i = ∑ i ∈ Finset.range (n * 512), f i + ∑ r : Fin 512, f (n * 512 + r) := by
  rw [Nat.succ_mul, Finset.sum_range_add, Finset.sum_range (fun x => f (n * 512 + x))]

theorem sum_all (f : ℕ → ℝ) : ∑ i : Fin 4096, f i = ∑ i ∈ Finset.range (8 * 512), f i := (Finset.sum_range f).symm

open Idealize.ShloMosaic in
/-- A choice by the comparison of two positions. -/
theorem select_seen {α : Type} {c r : ℕ} (hc : c < 4096) (hr : r < 4096) (x y : α) :
    Scalar.select (IntOp.cmpi CmpIPredicate.sle (BitVec.ofNat 32 c) (BitVec.ofNat 32 r)) x y = if c ≤ r then x else y := by
  rw [WordCmp.cmpi_sle_ofNat (by omega) (by omega), WordCmp.select_ofBool]
  simp only [decide_eq_true_eq]

end Cert.Attn

end
-- ==== Proof.Forward.lean ====
module

public import proofs.«01_k».proof.Proof.Softmax
public import proofs.«01_k».proof.Proof.Gen.ReferenceIdeal

/-!
The operations of the forward attention in order, by name, and their entries over the extended reals
where the arguments are real: the scores, the row's maximum, the exponentials, their sums, the softmax.
-/

@[expose] public section

set_option maxRecDepth 16384

noncomputable section

namespace Cert.ReferenceIdeal.Hand

open Idealize.ShloMosaic Idealize.ShloMosaic.TcCoe
open Cert.ReferenceIdeal Cert.ReferenceIdeal.Gen Cert.Attn

section Operations
variable {F : FTy → Type} [FloatOps F]

/-- An argument cut into its heads. -/
def heads (x : FVec F S4096x1024 .bf16) : FVec F S4096x8x128 .f32 :=
  shapeCast S4096x8x128 (extf .f32 x bitsLt_bf16_f32) shapeCasts_S4096x1024_S4096x8x128
/-- Where the key's position is at most the row's. -/
def seen : IVec S8x4096x4096 1 :=
  broadcastInDim S8x4096x4096 ![1, 2] bcast_S4096x4096_S8x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))
/-- The square root of 96. -/
def width : FVec F S_ .f32 := Host.sqrt (constant S_ .f32 0x42C00000#32)
/-- The scores, masked. -/
def scores (q k : FVec F S4096x1024 .bf16) : FVec F S8x4096x4096 .f32 :=
  select seen (Host.divf (Host.dotGeneral dot_S4096x8x128_S4096x8x128_S8x4096x4096_2_2_0_0_1_1 none (heads q) (heads k)) (broadcastInDim S8x4096x4096 ![] bcast_S_S8x4096x4096 width)) (broadcastInDim S8x4096x4096 ![] bcast_S_S8x4096x4096 (id (constant S_ .f32 0xFF800000#32)))
/-- Each row's maximum. -/
def top (q k : FVec F S4096x1024 .bf16) : FVec F S8x4096 .f32 :=
  Host.reduce FloatOps.maximumf (scores q k) (constant S_ .f32 0xFF800000#32) reducesTo_S8x4096x4096_S8x4096_d2 h_S_
/-- The exponentials, of the scores less `M`. -/
def exps (q k : FVec F S4096x1024 .bf16) (M : FVec F S8x4096 .f32) : FVec F S8x4096x4096 .f32 :=
  Host.exp (subf (scores q k) (broadcastInDim S8x4096x4096 ![0, 1, 2] bcast_S8x4096x1_S8x4096x4096_0_1_2 (broadcastInDim S8x4096x1 ![0, 1] bcast_S8x4096_S8x4096x1_0_1 M)))
/-- Their sums over each row. -/
def sums (q k : FVec F S4096x1024 .bf16) (M : FVec F S8x4096 .f32) : FVec F S8x4096x1 .f32 :=
  broadcastInDim S8x4096x1 ![0, 1] bcast_S8x4096_S8x4096x1_0_1 (Host.reduceAdd (exps q k M) (constant S_ .f32 0x00000000#32) reducesTo_S8x4096x4096_S8x4096_d2 h_S_)
/-- The softmax. -/
def probs (q k : FVec F S4096x1024 .bf16) (M : FVec F S8x4096 .f32) : FVec F S8x4096x4096 .f32 :=
  Host.divf (exps q k M) (broadcastInDim S8x4096x4096 ![0, 1, 2] bcast_S8x4096x1_S8x4096x4096_0_1_2 (sums q k M))

end Operations

/-- Head `h` of an array of 1024 lanes. -/
def head (X : Mat) (h : ℕ) : Mat := fun i d => X i (h * 128 + d)

/-- An argument holds real entries. -/
def Real2 {φ : FTy} (x : FVec Ideal S4096x1024 φ) (X : Mat) : Prop :=
  ∀ (i : Fin 4096) (c : Fin 1024), x (ix2 i c) = ((X i c : ℝ) : EReal)

/-- An array of scores holds real entries. -/
def Real3 (x : FVec Ideal S8x4096x4096 .f32) (X : ℕ → Mat) : Prop :=
  ∀ (h : Fin 8) (i c : Fin 4096), x (ix3 h i c) = ((X h i c : ℝ) : EReal)

theorem ofBits_96 : Ideal.ofBits .f32 0x42C00000#32 = ((96 : ℝ) : EReal) := by
  simp [Ideal.ofBits, Ideal.ieee, -EReal.coe_mul]; norm_num

theorem ofBits_bot : Ideal.ofBits .f32 0xFF800000#32 = ⊥ := by
  simp [Ideal.ofBits, Ideal.ieee]

theorem sqrt_96 : Ideal.sqrt (Ideal.ofBits .f32 0x42C00000#32) = ((root : ℝ) : EReal) := by
  rw [ofBits_96, Ideal.sqrt_coe, if_neg (by norm_num)]; rfl

/-- Real by real, where the divisor is not zero. -/
theorem div_real (x : ℝ) {y : ℝ} (h : y ≠ 0) : Ideal.div (x : EReal) (y : EReal) = ((x / y : ℝ) : EReal) := by
  rw [Ideal.div_coe h, ← EReal.coe_mul, mul_one_div]

variable {q k : FVec Ideal S4096x1024 .bf16} {Q K : Mat}

theorem heads_real {x : FVec Ideal S4096x1024 .bf16} {X : Mat} (hx : Real2 x X) (i : Fin 4096) (h : Fin 8) (d : Fin 128) :
    heads x (ix3 i h d) = ((head X h i d : ℝ) : EReal) := by
  pointwise [heads]
  exact hx _ _

theorem scores_real (hq : Real2 q Q) (hk : Real2 k K) (h : Fin 8) (i c : Fin 4096) :
    scores q k (ix3 h i c) = if c.val ≤ i.val then ((score (head Q h) (head K h) i c : ℝ) : EReal) else ⊥ := by
  pointwise [scores, seen, width]
  rw [select_seen c.isLt i.isLt, sqrt_96]
  simp only [heads_real hq, heads_real hk, ← EReal.coe_mul, coe_sum, div_real _ root_ne]
  by_cases hc : c.val ≤ i.val
  · rw [if_pos hc, if_pos hc]; rfl
  · rw [if_neg hc, if_neg hc]; exact ofBits_bot

/-- The maximum of entries that are real or −∞, not all −∞, is real. -/
theorem max_real {n : ℕ} (f : Fin n → EReal) (h : ∀ i, f i ≠ ⊤) (i : Fin n) (hi : f i ≠ ⊥) :
    ∃ M : ℝ, Finset.univ.fold max ⊥ f = (M : EReal) := by
  classical
  have h1 : ∀ s : Finset (Fin n), s.fold max ⊥ f ≠ ⊤ := by
    intro s
    induction s using Finset.induction_on with
    | empty => simp
    | insert a s ha ih =>
      rw [Finset.fold_insert ha]
      rcases max_choice (f a) (s.fold max ⊥ f) with e | e <;> rw [e]
      · exact h a
      · exact ih
  have h2 : Finset.univ.fold max ⊥ f ≠ ⊥ := by
    rw [← Finset.insert_erase (Finset.mem_univ i), Finset.fold_insert (Finset.notMem_erase _ _)]
    exact ne_bot_of_le_ne_bot hi (le_max_left _ _)
  exact ⟨_, (EReal.coe_toReal (h1 _) h2).symm⟩

theorem top_real (hq : Real2 q Q) (hk : Real2 k K) (h : Fin 8) (i : Fin 4096) :
    ∃ M : ℝ, top q k (ix2 h i) = (M : EReal) := by
  pointwise [top]
  rw [ofBits_bot]
  refine max_real _ (fun c => ?_) i ?_
  · rw [scores_real hq hk]; split
    · exact EReal.coe_ne_top _
    · exact bot_ne_top
  · rw [scores_real hq hk, if_pos (le_refl _)]; exact EReal.coe_ne_bot _

variable {M : FVec Ideal S8x4096 .f32} {T : ℕ → ℕ → ℝ}

theorem exps_real (hq : Real2 q Q) (hk : Real2 k K) (hM : ∀ (h : Fin 8) (i : Fin 4096), M (ix2 h i) = ((T h i : ℝ) : EReal)) :
    Real3 (exps q k M) fun h i c => weight (head Q h) (head K h) i c / Real.exp (T h i) := by
  intro h i c
  pointwise [exps]
  rw [scores_real hq hk, hM]
  rw [weight]
  by_cases hc : c.val ≤ i.val
  · rw [if_pos hc, if_pos hc, ← EReal.coe_sub, Ideal.exp_coe, Real.exp_sub]
  · rw [if_neg hc, if_neg hc, EReal.bot_sub, Ideal.exp_bot, zero_div, EReal.coe_zero]

theorem sums_real (hq : Real2 q Q) (hk : Real2 k K) (hM : ∀ (h : Fin 8) (i : Fin 4096), M (ix2 h i) = ((T h i : ℝ) : EReal))
    (h : Fin 8) (i : Fin 4096) (u : Fin 1) :
    sums q k M (ix3 h i u) = ((total (head Q h) (head K h) i / Real.exp (T h i) : ℝ) : EReal) := by
  pointwise [sums]
  simp only [exps_real hq hk hM _ _ _]
  rw [coe_sum, sum_shift]

theorem probs_real (hq : Real2 q Q) (hk : Real2 k K) (hM : ∀ (h : Fin 8) (i : Fin 4096), M (ix2 h i) = ((T h i : ℝ) : EReal)) :
    Real3 (probs q k M) fun h => prob (head Q h) (head K h) := by
  intro h i c
  pointwise [probs]
  rw [exps_real hq hk hM, sums_real hq hk hM, div_real _ (div_pos (total_pos _ _ i.isLt) (Real.exp_pos _)).ne', prob_shift]

end Cert.ReferenceIdeal.Hand

end
-- ==== Proof.Entry.lean ====
module

public import proofs.«01_k».proof.Proof.Forward
public import proofs.«01_k».proof.Proof.Gen.KernelIdeal.Frame
public import Idealize.ShloMosaic.Lib.Claim

/-!
What the backward call reads of the host: the scaled queries, the attention's output and the logarithm
of each row's sum of exponentials, entry by entry over the extended reals.
-/

@[expose] public section

set_option maxRecDepth 16384

noncomputable section

namespace Cert.KernelIdeal.Hand

open Idealize.ShloMosaic Idealize.ShloMosaic.TcCoe
open Cert.KernelIdeal.Gen Cert.Attn
open Cert.ReferenceIdeal.Hand (top sums probs heads width head Real2 Real3)

section Operations
variable {F : FTy → Type} [FloatOps F] [Named F]

/-- The natural logarithm of two. -/
def ln2 : FVec F S_ .f32 := Host.log (constant S_ .f32 0x40000000#32)
/-- The queries as the call reads them. -/
def scaled (q : FVec F S4096x1024 .bf16) : FVec F S4096x1024 .bf16 :=
  truncf .bf16 (Host.divf (extf .f32 q bitsLt_bf16_f32) (broadcastInDim S4096x1024 ![] bcast_S_S4096x1024 (mulf ln2 width))) bitsLt_bf16_f32
/-- The attention's output, from the softmax. -/
def outputOf (p : FVec F S8x4096x4096 .f32) (v : FVec F S4096x1024 .bf16) : FVec F S4096x1024 .bf16 :=
  truncf .bf16 (shapeCast S4096x1024 (transpose S4096x8x128 [2, 0, 1] (Host.dotGeneral dot_S4096x8x128_S8x4096x4096_S8x128x4096_0_2_2_1_1_0 none (heads v) p) transposes_S8x128x4096_S4096x8x128_2_0_1) shapeCasts_S4096x8x128_S4096x1024) bitsLt_bf16_f32
def output (q k v : FVec F S4096x1024 .bf16) : FVec F S4096x1024 .bf16 := outputOf (probs q k (top q k)) v
/-- The logarithm to base two of the row's sum of exponentials, spread over the lanes. -/
def logsOf (M : FVec F S8x4096 .f32) (s : FVec F S8x4096x1 .f32) : FVec F S4096x1024 .f32 :=
  shapeCast S4096x1024 (transpose S4096x8x128 [1, 0, 2] (broadcastInDim S8x4096x128 ![0, 1, 2] bcast_S8x4096x1_S8x4096x128_0_1_2 (Host.divf (addf (broadcastInDim S8x4096x1 ![0, 1] bcast_S8x4096_S8x4096x1_0_1 M) (Host.log s)) (broadcastInDim S8x4096x1 ![] bcast_S_S8x4096x1 ln2))) transposes_S8x4096x128_S4096x8x128_1_0_2) shapeCasts_S4096x8x128_S4096x1024
def logs (q k : FVec F S4096x1024 .bf16) : FVec F S4096x1024 .f32 := logsOf (top q k) (sums q k (top q k))

variable (m : (ℓ : Loc nD τ sig) → Buf (Elt F) ℓ) (c : Dev nD)

theorem entry_q : V m c main_v42 = scaled (m ((c.tc : Thread nD τ).loc main_arg0)) := by
  simp only [V, V0, hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results_simp
  delta scaled ln2 width
  rfl

theorem entry_o : V m c main_v30 = output (m ((c.tc : Thread nD τ).loc main_arg0)) (m ((c.tc : Thread nD τ).loc main_arg1)) (m ((c.tc : Thread nD τ).loc main_arg2)) := by
  simp only [V, V0, hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results_simp
  delta output outputOf probs sums ReferenceIdeal.Hand.exps top ReferenceIdeal.Hand.scores heads width ReferenceIdeal.Hand.seen
  rfl

theorem entry_lse : V m c main_v37 = logs (m ((c.tc : Thread nD τ).loc main_arg0)) (m ((c.tc : Thread nD τ).loc main_arg1)) := by
  simp only [V, V0, hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results_simp
  delta logs logsOf ln2 sums ReferenceIdeal.Hand.exps top ReferenceIdeal.Hand.scores heads width ReferenceIdeal.Hand.seen
  rfl

end Operations

open Cert.ReferenceIdeal.Hand (top_real sums_real probs_real heads_real div_real sqrt_96)

theorem ofBits_2 : Ideal.ofBits .f32 0x40000000#32 = ((2 : ℝ) : EReal) := by
  simp [Ideal.ofBits, Ideal.ieee, -EReal.coe_mul]; norm_num

theorem log_2 : Ideal.log (Ideal.ofBits .f32 0x40000000#32) = ((Real.log 2 : ℝ) : EReal) := by
  rw [ofBits_2, Ideal.log_coe, if_neg (by norm_num)]

variable {q k v : FVec Ideal S4096x1024 .bf16} {Q K V : Mat}

theorem tops_real (hq : Real2 q Q) (hk : Real2 k K) :
    ∃ T : ℕ → ℕ → ℝ, ∀ (h : Fin 8) (i : Fin 4096), top q k (ix2 h i) = ((T h i : ℝ) : EReal) := by
  choose T hT using top_real hq hk
  refine ⟨fun h i => if hh : h < 8 ∧ i < 4096 then T ⟨h, hh.1⟩ ⟨i, hh.2⟩ else 0, fun h i => ?_⟩
  simp only [h.isLt, i.isLt, and_self, dif_pos, Fin.eta]
  exact hT h i

theorem scaled_real (hq : Real2 q Q) (i : Fin 4096) (c : Fin 1024) :
    scaled q (ix2 i c) = ((Q i c / (Real.log 2 * root) : ℝ) : EReal) := by
  pointwise [scaled, ln2, width]
  rw [hq, log_2, sqrt_96, ← EReal.coe_mul, div_real _ (mul_ne_zero log2_ne root_ne)]

theorem outputOf_real {p : FVec Ideal S8x4096x4096 .f32} {P : ℕ → Mat} (hp : Real3 p P) (hv : Real2 v V) (i : Fin 4096) (h : Fin 8) (d : Fin 128) :
    outputOf p v (ix2 i (⟨h * 128 + d, by omega⟩ : Fin 1024)) = ((∑ c : Fin 4096, P h i c * head V h c d : ℝ) : EReal) := by
  pointwise [outputOf]
  simp only [hp _ _ _, heads_real hv, ← EReal.coe_mul, coe_sum]
  congr 1
  exact Finset.sum_congr rfl fun _ _ => mul_comm _ _

theorem output_real (hq : Real2 q Q) (hk : Real2 k K) (hv : Real2 v V) (i : Fin 4096) (h : Fin 8) (d : Fin 128) :
    output q k v (ix2 i (⟨h * 128 + d, by omega⟩ : Fin 1024)) = ((out (head Q h) (head K h) (head V h) i d : ℝ) : EReal) := by
  obtain ⟨T, hT⟩ := tops_real hq hk
  unfold output
  exact outputOf_real (probs_real hq hk hT) hv i h d

theorem logsOf_real {M : FVec Ideal S8x4096 .f32} {s : FVec Ideal S8x4096x1 .f32} {T Z : ℕ → ℕ → ℝ}
    (hM : ∀ (h : Fin 8) (i : Fin 4096), M (ix2 h i) = ((T h i : ℝ) : EReal))
    (hs : ∀ (h : Fin 8) (i : Fin 4096) (u : Fin 1), s (ix3 h i u) = ((Z h i : ℝ) : EReal))
    (hZ : ∀ (h : Fin 8) (i : Fin 4096), 0 < Z h i) (i : Fin 4096) (h : Fin 8) (d : Fin 128) :
    logsOf M s (ix2 i (⟨h * 128 + d, by omega⟩ : Fin 1024)) = (((T h i + Real.log (Z h i)) / Real.log 2 : ℝ) : EReal) := by
  pointwise [logsOf, ln2]
  rw [hM, hs, log_2, Ideal.log_coe, if_neg (not_le.mpr (hZ h i)), ← EReal.coe_add, div_real _ log2_ne]

theorem logs_real (hq : Real2 q Q) (hk : Real2 k K) (i : Fin 4096) (h : Fin 8) (d : Fin 128) :
    logs q k (ix2 i (⟨h * 128 + d, by omega⟩ : Fin 1024)) = ((Real.log (total (head Q h) (head K h) i) / Real.log 2 : ℝ) : EReal) := by
  obtain ⟨T, hT⟩ := tops_real hq hk
  unfold logs
  rw [logsOf_real (Z := fun h i => total (head Q h) (head K h) i / Real.exp (T h i)) hT (sums_real hq hk hT) (fun h i => div_pos (total_pos _ _ i.isLt) (Real.exp_pos _)) i h d, log_shift _ _ _ i.isLt]

end Cert.KernelIdeal.Hand

end
-- ==== Proof.Entries.lean ====
module

public import proofs.«01_k».proof.Proof.Softmax
public import proofs.«01_k».proof.Proof.Gen.KernelIdeal.Skeleton

/-!
The body's values of one block of 512 rows against one block of 512 keys, entry by entry, over the
extended reals, where what they read is real.
-/

@[expose] public section

set_option maxRecDepth 16384

noncomputable section

namespace Cert.KernelIdeal.Hand

open Idealize.ShloMosaic Idealize.ShloMosaic.TcCoe
open Cert.KernelIdeal.Gen Cert.Attn

/-- An array of 512 rows holds real entries. -/
def Holds {w : ℕ} {φ : FTy} (x : FVec Ideal ⟨2, ![512, w]⟩ φ) (X : Fin 512 → Fin w → ℝ) : Prop :=
  ∀ r d, x (ix2 r d) = ((X r d : ℝ) : EReal)

variable {xq xk xv xg xo : FVec Ideal S512x128 .bf16} {xl : FVec Ideal S512x1 .f32}
  {Q K V G O : Fin 512 → Fin 128 → ℝ} {L : Fin 512 → Fin 1 → ℝ}

theorem mask_eq : (Named.named κ "mask" 0xF149F2CA#32 : Ideal .f32) = ⊥ := rfl

theorem exp2_eq (x : EReal) : FloatOps.exp2 (F := Ideal) (φ := .f32) x = Ideal.exp2 x := rfl

/-- The softmax of a later block. -/
theorem later_prob (hq : Holds xq Q) (hk : Holds xk K) (hl : Holds xl L) :
    Holds (k0_pay6 xk xq xl) fun r c => Real.rpow 2 ((∑ d : Fin 128, Q r d * K c d) - L r 0) := by
  intro r c
  pointwise [k0_pay6, k0_pay4]
  simp only [hq _ _, hk _ _, hl _ _, ← EReal.coe_mul, coe_sum, ← EReal.coe_sub, exp2_eq, Ideal.exp2_coe]

/-- The softmax of the diagonal block. -/
theorem diagonal_prob (hq : Holds xq Q) (hk : Holds xk K) (hl : Holds xl L) :
    Holds (k0_pay27 xk xq xl) fun r c => if c.val ≤ r.val then Real.rpow 2 ((∑ d : Fin 128, Q r d * K c d) - L r 0) else 0 := by
  intro r c
  pointwise [k0_pay27, k0_pay25]
  rw [select_seen (by omega) (by omega)]
  simp only [hq _ _, hk _ _, hl _ _, ← EReal.coe_mul, coe_sum, exp2_eq, mask_eq]
  split
  · rw [← EReal.coe_sub, Ideal.exp2_coe]
  · rw [EReal.bot_sub, Ideal.exp2_bot, EReal.coe_zero]

/-- The gradient of the diagonal block's softmax, less the row's mean. -/
theorem diagonal_gain (hg : Holds xg G) (hv : Holds xv V) (ho : Holds xo O) :
    Holds (k0_pay30 xv xg xo) fun r c => (∑ d : Fin 128, G r d * V c d) - ∑ d : Fin 128, G r d * O r d := by
  intro r c
  pointwise [k0_pay30, k0_pay26, k0_pay28]
  simp only [hg _ _, hv _ _, ho _ _, ← EReal.coe_mul, coe_sum, ← EReal.coe_sub]

variable {P D : Fin 512 → Fin 512 → ℝ} {xp xd : FVec Ideal S512x512 .f32} {xs : FVec Ideal S512x128 .f32} {S : Fin 512 → Fin 128 → ℝ}

/-- The gradient of a later block's scores. -/
theorem later_slope (hp : Holds (k0_pay6 xk xq xl) P) (hg : Holds xg G) (hv : Holds xv V) (ho : Holds xo O) :
    Holds (k0_pay9 xk xv xq xg xo xl) fun r c => P r c * ((∑ d : Fin 128, G r d * V c d) - ∑ d : Fin 128, G r d * O r d) := by
  intro r c
  pointwise [k0_pay9, k0_pay5, k0_pay7]
  simp only [hp _ _, hg _ _, hv _ _, ho _ _, ← EReal.coe_mul, coe_sum, ← EReal.coe_sub]

theorem later_dv (hp : Holds (k0_pay6 xk xq xl) P) (hg : Holds xg G) (hs : Holds xs S) :
    Holds (k0_pay8 xk xs xq xg xl) fun c d => S c d + ∑ r : Fin 512, P r c * G r d := by
  intro c d
  pointwise [k0_pay8, k0_pay7, k0_pay5]
  simp only [hp _ _, hg _ _, hs _ _, ← EReal.coe_mul, coe_sum, ← EReal.coe_add]

theorem later_dq (hd : Holds (k0_pay9 xk xv xq xg xo xl) D) (hk : Holds xk K) (hs : Holds xs S) :
    Holds (k0_pay10 xk xv xq xg xo xl xs) fun r d => S r d + ∑ c : Fin 512, D r c * K c d := by
  intro r d
  pointwise [k0_pay10]
  simp only [hd _ _, hk _ _, hs _ _, ← EReal.coe_mul, coe_sum, ← EReal.coe_add]

theorem later_dk (hd : Holds (k0_pay9 xk xv xq xg xo xl) D) (hq : Holds xq Q) (hs : Holds xs S) :
    Holds (k0_pay11 xk xv xs xq xg xo xl) fun c d => S c d + ∑ r : Fin 512, D r c * Q r d := by
  intro c d
  pointwise [k0_pay11, k0_pay4]
  simp only [hd _ _, hq _ _, hs _ _, ← EReal.coe_mul, coe_sum, ← EReal.coe_add]

theorem diagonal_dq (hp : Holds xp P) (hd : Holds xd D) (hk : Holds xk K) (hs : Holds xs S) :
    Holds (k0_pay2 xk xp xd xs) fun r d => S r d + ∑ c : Fin 512, P r c * D r c * K c d := by
  intro r d
  pointwise [k0_pay2, k0_pay1]
  simp only [hp _ _, hd _ _, hk _ _, hs _ _, ← EReal.coe_mul, coe_sum, ← EReal.coe_add]

theorem diagonal_dk (hp : Holds xp P) (hd : Holds xd D) (hq : Holds xq Q) :
    Holds (k0_pay3 k0_pay24 (k0_pay25 xq) xp xd) fun c d => ∑ r : Fin 512, P r c * D r c * Q r d := by
  intro c d
  pointwise [k0_pay3, k0_pay24, k0_pay25, k0_pay1]
  simp only [hp _ _, hd _ _, hq _ _, ← EReal.coe_mul, coe_sum, zero_add]

theorem diagonal_dv (hp : Holds (k0_pay27 xk xq xl) P) (hg : Holds xg G) :
    Holds (k0_pay29 xk xq xg xl) fun c d => ∑ r : Fin 512, P r c * G r d := by
  intro c d
  pointwise [k0_pay29, k0_pay24, k0_pay28, k0_pay26]
  simp only [hp _ _, hg _ _, ← EReal.coe_mul, coe_sum, zero_add]

end Cert.KernelIdeal.Hand

end
-- ==== Proof.Point.lean ====
module

public import proofs.«01_k».proof.Proof.Blocks
public import proofs.«01_k».proof.Proof.Entries

/-!
One grid point over the reals: from the arrays of a head it adds to the gradient of the queries the
part of its block of keys, and its gradients of the keys and values are sums over all the head's rows.
-/

@[expose] public section

set_option maxRecDepth 16384

noncomputable section

namespace Cert.KernelIdeal.Hand

open Idealize.ShloMosaic Idealize.ShloMosaic.TcCoe
open Cert.KernelIdeal.Gen Cert.Attn

/-- A head's array of 4096 rows holds real entries. -/
def HoldsAll {φ : FTy} (x : FVec Ideal S4096x128 φ) (X : Mat) : Prop :=
  ∀ (i : Fin 4096) (d : Fin 128), x (ix2 i d) = ((X i d : ℝ) : EReal)

/-- What a point at block `j` of the keys reads of its head. -/
structure Reads (A : Arrays Ideal) (j : ℕ) (q k v g : Mat) : Prop where
  of_q : HoldsAll (φ := .bf16) A.q fun i d => q i d / (Real.log 2 * root)
  of_k : Holds (w := 128) (φ := .bf16) A.k fun r d => k (j * 512 + r) d
  of_v : Holds (w := 128) (φ := .bf16) A.v fun r d => v (j * 512 + r) d
  of_o : HoldsAll (φ := .bf16) A.o fun i d => out q k v i d
  of_lse : HoldsAll (φ := .f32) A.lse fun i _ => Real.log (total q k i) / Real.log 2
  of_g : HoldsAll (φ := .bf16) A.g g

theorem rows_apply {F : FTy → Type} {e : EltTy} (x : Vec F S4096x128 e) {b : ℕ} (hb : b < 8) (r : Fin 512) (d : Fin 128) :
    rows x b (ix2 r d) = x (ix2 (⟨b * 512 + r, by omega⟩ : Fin 4096) d) := by
  have e : (Rect.unit (s := S4096x128) ![b % 8 * 512, 0] S512x128.size (block_inb b)).emb (ix2 r d) = ix2 (⟨b * 512 + r, by omega⟩ : Fin 4096) d := by
    funext a
    apply Fin.ext
    fin_cases a
    · show b % 8 * 512 + 1 * r.val = b * 512 + r.val; omega
    · show 0 + 1 * d.val = d.val; omega
  show x _ = _
  rw [e]

theorem rows_holds {x : FVec Ideal S4096x128 .bf16} {X : Mat} (h : HoldsAll x X) {b : ℕ} (hb : b < 8) :
    Holds (w := 128) (φ := .bf16) (rows (F := Ideal) (e := .bf16) x b) fun r d => X (b * 512 + r) d := fun r d =>
  (rows_apply (F := Ideal) (e := .bf16) x hb r d).trans (h _ d)

theorem rows_holds' {x : FVec Ideal S4096x128 .f32} {X : Mat} (h : HoldsAll x X) {b : ℕ} (hb : b < 8) :
    Holds (w := 128) (φ := .f32) (rows (F := Ideal) (e := .f32) x b) fun r d => X (b * 512 + r) d := fun r d =>
  (rows_apply (F := Ideal) (e := .f32) x hb r d).trans (h _ d)

theorem column_holds {x : FVec Ideal S4096x128 .f32} {X : Mat} (h : HoldsAll x X) {b : ℕ} (hb : b < 8) :
    Holds (w := 1) (φ := .f32) (column (F := Ideal) (e := .f32) x b) fun r _ => X (b * 512 + r) 0 := by
  intro r d
  have e : (Rect.unit (s := S4096x128) ![b % 8 * 512, 0] S512x1.size (column_inb b)).emb (ix2 r d) = ix2 (⟨b * 512 + r, by omega⟩ : Fin 4096) (0 : Fin 128) := by
    funext a
    apply Fin.ext
    fin_cases a
    · show b % 8 * 512 + 1 * r.val = b * 512 + r.val; omega
    · show 0 + 1 * d.val = 0; omega
  show x _ = _
  rw [e, h]; rfl

/-- Rows put in place: the block's rows are the new ones. -/
theorem putRows_holds {x : FVec Ideal S4096x128 .f32} {X : Mat} (h : HoldsAll x X) {b : ℕ} (hb : b < 8)
    {w : FVec Ideal S512x128 .f32} {W : Mat} (hw : Holds (w := 128) w fun r d => W (b * 512 + r) d) :
    HoldsAll (φ := .f32) (putRows (F := Ideal) (e := .f32) x b w) fun i d => if b * 512 ≤ i ∧ i < (b + 1) * 512 then W i d else X i d := by
  intro i d
  show (if h : _ then _ else _ : EReal) = ((if b * 512 ≤ i.val ∧ i.val < (b + 1) * 512 then W i d else X i d : ℝ) : EReal)
  by_cases hi : b * 512 ≤ i.val ∧ i.val < (b + 1) * 512
  · rw [dif_pos (fun a => by
      fin_cases a
      · show b % 8 * 512 ≤ i.val ∧ i.val < b % 8 * 512 + 512; omega
      · show 0 ≤ d.val ∧ d.val < 0 + 128; omega)]
    have e := hw (⟨i.val - b * 512, by omega⟩ : Fin 512) d
    simp only [if_pos hi]
    refine Eq.trans (congrArg w ?_) (e.trans ?_)
    · funext a
      apply Fin.ext
      fin_cases a
      · show i.val - b % 8 * 512 = i.val - b * 512; omega
      · show d.val - 0 = d.val; omega
    · show ((W (b * 512 + (i.val - b * 512)) d : ℝ) : EReal) = _
      rw [show b * 512 + (i.val - b * 512) = i.val by omega]
  · rw [dif_neg (fun hall => hi (by
      have h0 : b % 8 * 512 ≤ i.val ∧ i.val < b % 8 * 512 + 512 := hall 0
      omega))]
    simp only [if_neg hi]
    exact h i d

theorem Holds.congr {w : ℕ} {φ : FTy} {x : FVec Ideal ⟨2, ![512, w]⟩ φ} {X Y : Fin 512 → Fin w → ℝ} (h : Holds x X)
    (e : ∀ r d, X r d = Y r d) : Holds x Y := fun r d => by rw [h r d, e r d]

theorem HoldsAll.congr {φ : FTy} {x : FVec Ideal S4096x128 φ} {X Y : Mat} (h : HoldsAll x X)
    (e : ∀ i d, i < 4096 → X i d = Y i d) : HoldsAll x Y := fun i d => by rw [h i d, e i d i.isLt]

variable {A : Arrays Ideal} {j : ℕ} {q k v g : Mat}

theorem prob_later (R : Reads A j q k v g) (hj : j < 8) {b : ℕ} (hb : b < 8) (hjb : j < b) :
    Holds (k0_pay6 (F := Ideal) A.k (rows A.q b) (column A.lse b)) fun r c => prob q k (b * 512 + r) (j * 512 + c) :=
  (later_prob (rows_holds R.of_q hb) R.of_k (column_holds R.of_lse hb)).congr fun r c =>
    prob_pow q k (i := b * 512 + r) (c := j * 512 + c) (by omega) (by omega)

theorem prob_diagonal (R : Reads A j q k v g) (hj : j < 8) :
    Holds (k0_pay27 (F := Ideal) A.k (rows A.q j) (column A.lse j)) fun r c => prob q k (j * 512 + r) (j * 512 + c) :=
  (diagonal_prob (rows_holds R.of_q hj) R.of_k (column_holds R.of_lse hj)).congr fun r c => by
    by_cases h : c.val ≤ r.val
    · rw [if_pos h]
      exact prob_pow q k (i := j * 512 + r) (c := j * 512 + c) (by omega) (by omega)
    · rw [if_neg h, prob_hidden q k (by omega)]

theorem slope_later (R : Reads A j q k v g) (hj : j < 8) {b : ℕ} (hb : b < 8) (hjb : j < b) :
    Holds (k0_pay9 (F := Ideal) A.k A.v (rows A.q b) (rows A.g b) (rows A.o b) (column A.lse b))
      fun r c => slope q k v g (b * 512 + r) (j * 512 + c) :=
  (later_slope (prob_later R hj hb hjb) (rows_holds R.of_g hb) R.of_v (rows_holds R.of_o hb)).congr fun r c => by
    rw [sum_out q k v g (b * 512 + r)]; rfl

theorem gain_diagonal (R : Reads A j q k v g) (hj : j < 8) :
    Holds (k0_pay30 (F := Ideal) A.v (rows A.g j) (rows A.o j))
      fun r c => gain v g (j * 512 + r) (j * 512 + c) - ∑ c' : Fin 4096, prob q k (j * 512 + r) c' * gain v g (j * 512 + r) c' :=
  (diagonal_gain (rows_holds R.of_g hj) R.of_v (rows_holds R.of_o hj)).congr fun r c => by
    rw [sum_out q k v g (j * 512 + r)]; rfl

/-- What the block `j` of keys adds to the gradient of the queries. -/
def part (q k v g : Mat) (j i d : ℕ) : ℝ := ∑ c : Fin 512, slope q k v g i (j * 512 + c) * k (j * 512 + c) d

theorem part_hidden (q k v g : Mat) {j i : ℕ} (d : ℕ) (h : i < j * 512) : part q k v g j i d = 0 :=
  Finset.sum_eq_zero fun c _ => by rw [slope_hidden q k v g (by omega), zero_mul]

/-- A point's state once the rows below `n` blocks are done. -/
structure Done (j : ℕ) (q k v g a : Mat) (n : ℕ) (s : State Ideal) : Prop where
  dq : HoldsAll (φ := .f32) s.1 fun i d => a i d + if i < n * 512 then part q k v g j i d else 0
  dk : Holds (w := 128) (φ := .f32) s.2.1 fun c d => ∑ i ∈ Finset.range (n * 512), slope q k v g i (j * 512 + c) * (q i d / (Real.log 2 * root))
  dv : Holds (w := 128) (φ := .f32) s.2.2 fun c d => ∑ i ∈ Finset.range (n * 512), prob q k i (j * 512 + c) * g i d

theorem done_diagonal (R : Reads A j q k v g) (hj : j < 8) {acc : FVec Ideal S4096x128 .f32} {a : Mat} (ha : HoldsAll acc a) :
    Done j q k v g a (j + 1) (diagonal A j acc) where
  dq := (putRows_holds ha hj (W := fun i d => a i d + part q k v g j i d)
      (diagonal_dq (prob_diagonal R hj) (gain_diagonal R hj) R.of_k (rows_holds' ha hj))).congr fun i d _ => by
    by_cases h : j * 512 ≤ i ∧ i < (j + 1) * 512
    · rw [if_pos h, if_pos h.2]
    · rw [if_neg h]
      by_cases h' : i < (j + 1) * 512
      · rw [if_pos h', part_hidden q k v g d (by omega), add_zero]
      · rw [if_neg h', add_zero]
  dk := (diagonal_dk (prob_diagonal R hj) (gain_diagonal R hj) (rows_holds R.of_q hj)).congr fun c d => by
    rw [sum_blocks_succ (fun i => slope q k v g i (j * 512 + c) * (q i d / (Real.log 2 * root))), show ∑ i ∈ Finset.range (j * 512), (fun i => slope q k v g i (j * 512 + c) * (q i d / (Real.log 2 * root))) i = 0 from Finset.sum_eq_zero ?_, zero_add]
    · rfl
    · intro i hi
      rw [Finset.mem_range] at hi
      rw [slope_hidden q k v g (by omega), zero_mul]
  dv := (diagonal_dv (prob_diagonal R hj) (rows_holds R.of_g hj)).congr fun c d => by
    rw [sum_blocks_succ (fun i => prob q k i (j * 512 + c) * g i d), show ∑ i ∈ Finset.range (j * 512), (fun i => prob q k i (j * 512 + c) * g i d) i = 0 from Finset.sum_eq_zero ?_, zero_add]
    intro i hi
    rw [Finset.mem_range] at hi
    rw [prob_hidden q k (by omega), zero_mul]

theorem done_later (R : Reads A j q k v g) (hj : j < 8) {b : ℕ} (hb : b < 8) (hjb : j < b) {a : Mat} {s : State Ideal}
    (h : Done j q k v g a b s) : Done j q k v g a (b + 1) (later A b s) where
  dq := (putRows_holds h.dq hb (W := fun i d => (a i d + if i < b * 512 then part q k v g j i d else 0) + part q k v g j i d)
      (later_dq (slope_later R hj hb hjb) R.of_k (rows_holds' h.dq hb))).congr fun i d _ => by
    by_cases h : b * 512 ≤ i ∧ i < (b + 1) * 512
    · rw [if_pos h, if_neg (by omega), if_pos h.2, add_zero]
    · rw [if_neg h]
      by_cases h' : i < b * 512
      · rw [if_pos h', if_pos (by omega)]
      · rw [if_neg h', if_neg (by omega)]
  dk := (later_dk (slope_later R hj hb hjb) (rows_holds R.of_q hb) h.dk).congr fun c d => by
    rw [sum_blocks_succ (fun i => slope q k v g i (j * 512 + c) * (q i d / (Real.log 2 * root)))]
  dv := (later_dv (prob_later R hj hb hjb) (rows_holds R.of_g hb) h.dv).congr fun c d => by
    rw [sum_blocks_succ (fun i => prob q k i (j * 512 + c) * g i d)]

theorem done_laters (R : Reads A j q k v g) (hj : j < 8) {acc : FVec Ideal S4096x128 .f32} {a : Mat} (ha : HoldsAll acc a) :
    ∀ n, n ≤ 7 - j → Done j q k v g a (j + 1 + n) (laters A j (diagonal A j acc) n)
  | 0, _ => done_diagonal R hj ha
  | n + 1, hn => done_later R hj (b := j + 1 + n) (by omega) (by omega) (done_laters R hj ha n (by omega))

theorem done_point (R : Reads A j q k v g) (hj : j < 8) {acc : FVec Ideal S4096x128 .f32} {a : Mat} (ha : HoldsAll acc a) :
    Done j q k v g a 8 (point A j acc) := by
  have h := done_laters R hj ha (7 - j) (le_refl _)
  rw [show j + 1 + (7 - j) = 8 by omega] at h
  exact h

/-- The gradient of the queries after a point. -/
theorem point_dq (R : Reads A j q k v g) (hj : j < 8) {acc : FVec Ideal S4096x128 .f32} {a : Mat} (ha : HoldsAll acc a) :
    HoldsAll (φ := .f32) (point A j acc).1 fun i d => a i d + part q k v g j i d :=
  (done_point R hj ha).dq.congr fun i d hi => by rw [if_pos (by omega)]

/-- The block of the keys' gradient, as stored. -/
theorem point_dk (R : Reads A j q k v g) (hj : j < 8) {acc : FVec Ideal S4096x128 .f32} {a : Mat} (ha : HoldsAll acc a) :
    Holds (k0_pay20 (F := Ideal) (point A j acc).2.1) fun c d => gradK q k v g (j * 512 + c) d := by
  intro c d
  have h : _ = ((∑ i ∈ Finset.range (8 * 512), slope q k v g i (j * 512 + c) * (q i d / (Real.log 2 * root)) : ℝ) : EReal) := (done_point R hj ha).dk c d
  pointwise [k0_pay20]
  rw [h, show (Named.named κ "ln2" 0x3F317218#32 : Ideal .f32) = ((Real.log 2 : ℝ) : EReal) from rfl, ← EReal.coe_mul, ← sum_all
    (fun i => slope q k v g i (j * 512 + c) * (q i d / (Real.log 2 * root))), gradK, Finset.sum_mul, Finset.sum_div]
  congr 1
  refine Finset.sum_congr rfl fun i _ => ?_
  have := log2_ne; have := root_ne
  field_simp

/-- The block of the values' gradient, as stored. -/
theorem point_dv (R : Reads A j q k v g) (hj : j < 8) {acc : FVec Ideal S4096x128 .f32} {a : Mat} (ha : HoldsAll acc a) :
    Holds (k0_pay21 (F := Ideal) (point A j acc).2.2) fun c d => gradV q k g (j * 512 + c) d := by
  intro c d
  have h : _ = ((∑ i ∈ Finset.range (8 * 512), prob q k i (j * 512 + c) * g i d : ℝ) : EReal) := (done_point R hj ha).dv c d
  pointwise [k0_pay21]
  rw [h, ← sum_all (fun i => prob q k i (j * 512 + c) * g i d)]
  rfl

end Cert.KernelIdeal.Hand

end
-- ==== Proof.Heads.lean ====
module

public import proofs.«01_k».proof.Proof.Data
public import proofs.«01_k».proof.Proof.Entry
public import proofs.«01_k».proof.Proof.Point
public import Idealize.ShloMosaic.Lib.Pipeline.ValueKit

/-!
The points of the backward call over the reals: point `t` reads head `t / 8` and block `t % 8` of its keys,
and after it the accumulator holds what the head's blocks up to this one add to the gradient of the queries.
-/

@[expose] public section

set_option maxRecDepth 16384

noncomputable section

namespace Cert.KernelIdeal.Hand

open Idealize.ShloMosaic Idealize.ShloMosaic.TcCoe
open Cert.KernelIdeal.Gen Cert.Attn
open Cert.ReferenceIdeal.Hand (head Real2)

theorem index_0 : ∀ t : Fin cfg0.N, win0_0.index t = ![0, t.val / 8] := (by decide +kernel : ∀ t : Fin grid0.N, _)
theorem index_1 : ∀ t : Fin cfg0.N, win0_1.index t = ![t.val % 8, t.val / 8] := (by decide +kernel : ∀ t : Fin grid0.N, _)
theorem index_2 : ∀ t : Fin cfg0.N, win0_2.index t = ![t.val % 8, t.val / 8] := (by decide +kernel : ∀ t : Fin grid0.N, _)
theorem index_3 : ∀ t : Fin cfg0.N, win0_3.index t = ![0, t.val / 8] := (by decide +kernel : ∀ t : Fin grid0.N, _)
theorem index_4 : ∀ t : Fin cfg0.N, win0_4.index t = ![0, t.val / 8] := (by decide +kernel : ∀ t : Fin grid0.N, _)
theorem index_5 : ∀ t : Fin cfg0.N, win0_5.index t = ![0, t.val / 8] := (by decide +kernel : ∀ t : Fin grid0.N, _)

theorem lt_64 (t : Fin cfg0.N) : t.val < 64 := Nat.lt_of_lt_of_eq t.isLt N_0

section Blocks
variable {F : FTy → Type} [FloatOps F] [Named F]
variable (m : (ℓ : Loc nD τ sig) → Buf (Elt F) ℓ) (c : Dev nD)

/-- A lane of head `t / 8`, in the array of 1024 lanes. -/
abbrev lane (t : Fin cfg0.N) (d : Fin 128) : Fin 1024 := ⟨t.val / 8 * 128 + d, by have := lt_64 t; omega⟩
/-- A row of block `t % 8`. -/
abbrev row (t : Fin cfg0.N) (r : Fin 512) : Fin 4096 := ⟨t.val % 8 * 512 + r, by omega⟩

theorem block_0 (t : Fin cfg0.N) (i : Fin 4096) (d : Fin 128) : (inputs m c t).q (ix2 i d) = V m c main_v42 (ix2 i (lane t d)) := by
  show iblk m c 0 t (ix2 i d) = _
  blk_ext [iblk, index_0]
theorem block_1 (t : Fin cfg0.N) (r : Fin 512) (d : Fin 128) : (inputs m c t).k (ix2 r d) = V m c main_arg1 (ix2 (row t r) (lane t d)) := by
  show iblk m c 1 t (ix2 r d) = _
  blk_ext [iblk, index_1]
theorem block_2 (t : Fin cfg0.N) (r : Fin 512) (d : Fin 128) : (inputs m c t).v (ix2 r d) = V m c main_arg2 (ix2 (row t r) (lane t d)) := by
  show iblk m c 2 t (ix2 r d) = _
  blk_ext [iblk, index_2]
theorem block_3 (t : Fin cfg0.N) (i : Fin 4096) (d : Fin 128) : (inputs m c t).o (ix2 i d) = V m c main_v30 (ix2 i (lane t d)) := by
  show iblk m c 3 t (ix2 i d) = _
  blk_ext [iblk, index_3]
theorem block_4 (t : Fin cfg0.N) (i : Fin 4096) (d : Fin 128) : (inputs m c t).lse (ix2 i d) = V m c main_v37 (ix2 i (lane t d)) := by
  show iblk m c 4 t (ix2 i d) = _
  blk_ext [iblk, index_4]
theorem block_5 (t : Fin cfg0.N) (i : Fin 4096) (d : Fin 128) : (inputs m c t).g (ix2 i d) = V m c main_arg3 (ix2 i (lane t d)) := by
  show iblk m c 5 t (ix2 i d) = _
  blk_ext [iblk, index_5]

end Blocks

variable (m : (ℓ : Loc nD τ sig) → Buf (Elt Ideal) ℓ) (c : Dev nD) {Q K W G : Mat}

/-- The four arguments hold real entries. -/
structure RealArgs (Q K W G : Mat) : Prop where
  of_q : Real2 (φ := .bf16) (m ((c.tc : Thread nD τ).loc main_arg0)) Q
  of_k : Real2 (φ := .bf16) (m ((c.tc : Thread nD τ).loc main_arg1)) K
  of_v : Real2 (φ := .bf16) (m ((c.tc : Thread nD τ).loc main_arg2)) W
  of_g : Real2 (φ := .bf16) (m ((c.tc : Thread nD τ).loc main_arg3)) G

variable {m c}

theorem reads (R : RealArgs m c Q K W G) (t : Fin cfg0.N) :
    Reads (inputs m c t) (t.val % 8) (head Q (t.val / 8)) (head K (t.val / 8)) (head W (t.val / 8)) (head G (t.val / 8)) where
  of_q i d := by
    rw [block_0 m c t i d, entry_q m c]; exact scaled_real R.of_q i _
  of_k r d := by
    rw [block_1 m c t r d, V_main_arg1 m c]; exact R.of_k _ _
  of_v r d := by
    rw [block_2 m c t r d, V_main_arg2 m c]; exact R.of_v _ _
  of_o i d := by
    rw [block_3 m c t i d, entry_o m c]; exact output_real R.of_q R.of_k R.of_v i ⟨t.val / 8, by have := lt_64 t; omega⟩ d
  of_lse i d := by
    rw [block_4 m c t i d, entry_lse m c]; exact logs_real R.of_q R.of_k i ⟨t.val / 8, by have := lt_64 t; omega⟩ d
  of_g i d := by
    rw [block_5 m c t i d, V_main_arg3 m c]; exact R.of_g _ _

theorem zero_holds : HoldsAll (φ := .f32) (k0_pay23 (F := Ideal)) fun _ _ => 0 := by
  intro i d
  pointwise [k0_pay23]
  rfl

theorem coords_eq (t : Fin cfg0.N) : (grid0.coords t 1).val = t.val % 8 := by
  have e1 : (grid0.coords t 1).val = t.val / 1 % 8 := Pipeline.Grid.coords_val t 1 (by decide) rfl
  rw [e1, Nat.div_one]

/-- What the first `n` blocks of a head's keys add to the gradient of the queries. -/
def parts (Q K W G : Mat) (h n : ℕ) : Mat := fun i d => ∑ j ∈ Finset.range n, part (head Q h) (head K h) (head W h) (head G h) j i d

theorem start_holds (R : RealArgs m c Q K W G) : ∀ (n : ℕ) (hn : n < cfg0.N),
    HoldsAll (φ := .f32) (if n % 8 = 0 then k0_pay23 (F := Ideal) else accumulated m c n) (parts Q K W G (n / 8) (n % 8))
  | 0, _ => zero_holds.congr fun i d _ => by simp [parts]
  | n + 1, hn => by
    have hn' : n < cfg0.N := Nat.lt_of_succ_lt hn
    by_cases h : (n + 1) % 8 = 0
    · rw [if_pos h, h]
      exact zero_holds.congr fun i d _ => by simp [parts]
    · rw [if_neg h, accumulated_succ m c ⟨n, hn'⟩, left, coords_eq]
      refine (point_dq (reads R ⟨n, hn'⟩) (Nat.mod_lt _ (by decide)) (start_holds R n hn')).congr fun i d _ => ?_
      have e1 : (n + 1) / 8 = n / 8 := by omega
      have e2 : (n + 1) % 8 = n % 8 + 1 := by omega
      rw [e1, e2, parts, parts, Finset.sum_range_succ]

theorem left_dq (R : RealArgs m c Q K W G) (t : Fin cfg0.N) :
    HoldsAll (φ := .f32) (left m c t).1 (parts Q K W G (t.val / 8) (t.val % 8 + 1)) := by
  rw [left, coords_eq]
  refine (point_dq (reads R t) (Nat.mod_lt _ (by decide)) (start_holds R t.val t.isLt)).congr fun i d _ => ?_
  rw [parts, parts, Finset.sum_range_succ]

theorem left_dk (R : RealArgs m c Q K W G) (t : Fin cfg0.N) :
    Holds (w := 128) (φ := .bf16) (k0_pay20 (F := Ideal) (left m c t).2.1) fun r d =>
      gradK (head Q (t.val / 8)) (head K (t.val / 8)) (head W (t.val / 8)) (head G (t.val / 8)) (t.val % 8 * 512 + r) d := by
  rw [left, coords_eq]
  exact point_dk (reads R t) (Nat.mod_lt _ (by decide)) (start_holds R t.val t.isLt)

theorem left_dv (R : RealArgs m c Q K W G) (t : Fin cfg0.N) :
    Holds (w := 128) (φ := .bf16) (k0_pay21 (F := Ideal) (left m c t).2.2) fun r d =>
      gradV (head Q (t.val / 8)) (head K (t.val / 8)) (head G (t.val / 8)) (t.val % 8 * 512 + r) d := by
  rw [left, coords_eq]
  exact point_dv (reads R t) (Nat.mod_lt _ (by decide)) (start_holds R t.val t.isLt)

/-- All eight blocks together: the gradient of the queries, before its division. -/
theorem parts_all (h i d : ℕ) : parts Q K W G h 8 i d = ∑ c : Fin 4096, slope (head Q h) (head K h) (head W h) (head G h) i c * head K h c d := by
  rw [sum_all fun c => slope (head Q h) (head K h) (head W h) (head G h) i c * head K h c d]
  have e : ∀ n, parts Q K W G h n i d = ∑ c ∈ Finset.range (n * 512), slope (head Q h) (head K h) (head W h) (head G h) i c * head K h c d := by
    intro n
    induction n with
    | zero => simp [parts]
    | succ n ih => rw [sum_blocks_succ fun c => slope (head Q h) (head K h) (head W h) (head G h) i c * head K h c d, ← ih, parts, Finset.sum_range_succ]; rfl
  exact e 8

end Cert.KernelIdeal.Hand

end
-- ==== Proof.Results.lean ====
module

public import proofs.«01_k».proof.Proof.Heads
public import Idealize.ShloMosaic.Lib.Pipeline.ValueKit

/-!
The call's result arrays over the reals: each window's blocks, written back, make the whole array, and the
last division of the host makes the gradient of the queries.
-/

@[expose] public section

set_option maxRecDepth 16384

noncomputable section

namespace Cert.KernelIdeal.Hand

open Idealize.ShloMosaic Idealize.ShloMosaic.TcCoe
open Cert.KernelIdeal.Gen Cert.Attn
open Cert.ReferenceIdeal.Hand (head Real2 width div_real sqrt_96)

theorem index_6 : ∀ t : Fin cfg0.N, win0_6.index t = ![0, t.val / 8] := (by decide +kernel : ∀ t : Fin grid0.N, _)
theorem index_7 : ∀ t : Fin cfg0.N, win0_7.index t = ![t.val % 8, t.val / 8] := (by decide +kernel : ∀ t : Fin grid0.N, _)
theorem index_8 : ∀ t : Fin cfg0.N, win0_8.index t = ![t.val % 8, t.val / 8] := (by decide +kernel : ∀ t : Fin grid0.N, _)

/-- The queries' gradient is written back at the last block of each head. -/
theorem flush_6 : ∀ t : Fin cfg0.N, (cfg0.win 6).flush t = true → t.val % 8 = 7 := by decide +kernel

/-- An array of 1024 lanes, from its heads. -/
def whole (f : ℕ → Mat) : FVec Ideal S4096x1024 .bf16 := fun i => ((f ((i 1).val / 128) (i 0).val ((i 1).val % 128) : ℝ) : EReal)

theorem whole_apply (f : ℕ → Mat) (i : Fin 4096) (l : Fin 1024) {h d : ℕ} (hd : d < 128) (e : l.val = h * 128 + d) :
    whole f (ix2 i l) = ((f h i d : ℝ) : EReal) := by
  show ((f (l.val / 128) i.val (l.val % 128) : ℝ) : EReal) = _
  rw [show l.val / 128 = h by omega, show l.val % 128 = d by omega]

variable {m : (ℓ : Loc nD τ sig) → Buf (Elt Ideal) ℓ} {c : Dev nD} {Q K W G : Mat}

/-- The gradient of the queries as the call stores it. -/
theorem stored_dq (R : RealArgs m c Q K W G) (t : Fin cfg0.N) (ht : t.val % 8 = 7) (i : Fin 4096) (d : Fin 128) :
    k0_pay22 (F := Ideal) (left m c t).1 (ix2 i d) = ((parts Q K W G (t.val / 8) 8 i d * Real.log 2 : ℝ) : EReal) := by
  have h : _ = ((parts Q K W G (t.val / 8) (t.val % 8 + 1) i d : ℝ) : EReal) := left_dq R t i d
  rw [ht] at h
  generalize (left m c t).1 = X at h
  pointwise [k0_pay22]
  rw [h, show (Named.named κ "ln2" 0x3F317218#32 : Ideal .f32) = ((Real.log 2 : ℝ) : EReal) from rfl, ← EReal.coe_mul]

theorem final_dq (R : RealArgs m c Q K W G) :
    (dats m 0 c).arrAt 6 cfg0.N = whole fun h i d => parts Q K W G h 8 i d * Real.log 2 := by
  refine (dats m 0 c).arrAt_eq_of_covers 6 _ (by decide +kernel) fun t hf y => ?_
  blk_simp
  rw [after_6]
  have hy : y = ix2 (y 0) (y 1) := by funext a; fin_cases a <;> rfl
  have e : (win0_6.blk t).view.emb y = ix2 (n0 := 4096) (y 0) (lane t (y 1)) := by blk_ext [index_6]
  rw [e]
  refine Eq.trans ?_ (whole_apply _ (y 0) (lane t (y 1)) (y 1).isLt rfl).symm
  refine Eq.trans ?_ (stored_dq R t (flush_6 t hf) (y 0) (y 1))
  exact congrArg _ hy

theorem final_dk (R : RealArgs m c Q K W G) :
    (dats m 0 c).arrAt 7 cfg0.N = whole fun h => gradK (head Q h) (head K h) (head W h) (head G h) := by
  refine (dats m 0 c).arrAt_eq_of_covers 7 _ (by decide +kernel) fun t hf y => ?_
  blk_simp
  rw [after_7]
  have hy : y = ix2 (y 0) (y 1) := by funext a; fin_cases a <;> rfl
  have e : (win0_7.blk t).view.emb y = ix2 (row t (y 0)) (lane t (y 1)) := by blk_ext [index_7]
  rw [e, whole_apply _ _ _ (y 1).isLt rfl]
  refine Eq.trans ?_ (left_dk R t (y 0) (y 1))
  exact congrArg _ hy

theorem final_dv (R : RealArgs m c Q K W G) :
    (dats m 0 c).arrAt 8 cfg0.N = whole fun h => gradV (head Q h) (head K h) (head G h) := by
  refine (dats m 0 c).arrAt_eq_of_covers 8 _ (by decide +kernel) fun t hf y => ?_
  blk_simp
  rw [after_8]
  have hy : y = ix2 (y 0) (y 1) := by funext a; fin_cases a <;> rfl
  have e : (win0_8.blk t).view.emb y = ix2 (row t (y 0)) (lane t (y 1)) := by blk_ext [index_8]
  rw [e, whole_apply _ _ _ (y 1).isLt rfl]
  refine Eq.trans ?_ (left_dv R t (y 0) (y 1))
  exact congrArg _ hy

/-- The host's last division. -/
def divided {F : FTy → Type} [FloatOps F] [Named F] (x : FVec F S4096x1024 .bf16) : FVec F S4096x1024 .bf16 :=
  truncf .bf16 (Host.divf (extf .f32 x bitsLt_bf16_f32) (broadcastInDim S4096x1024 ![] bcast_S_S4096x1024 (mulf ln2 width))) bitsLt_bf16_f32

theorem divided_real {x : FVec Ideal S4096x1024 .bf16} {f : ℕ → Mat} (hx : x = whole fun h i d => f h i d * Real.log 2) :
    divided x = whole fun h i d => f h i d / root := by
  subst hx
  funext j
  pointwise [divided, ln2, width]
  rw [log_2, sqrt_96, ← EReal.coe_mul]
  unfold whole
  rw [div_real _ (mul_ne_zero log2_ne root_ne)]
  congr 1
  have := log2_ne; have := root_ne
  field_simp

theorem entry_root (m : (ℓ : Loc nD τ sig) → Buf (Elt Ideal) ℓ) (c : Dev nD) : V0 m c (Proc.devRef .tc main_v0) = width (F := Ideal) := by
  simp only [V0, hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results_simp
  rfl

theorem entry_ln2 (m : (ℓ : Loc nD τ sig) → Buf (Elt Ideal) ℓ) (c : Dev nD) : V0 m c (Proc.devRef .tc main_v1) = ln2 (F := Ideal) := by
  simp only [V0, hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results_simp
  rfl

theorem tail_dq (m : (ℓ : Loc nD τ sig) → Buf (Elt Ideal) ℓ) (c : Dev nD) :
    Pipeline.afterTail₀ cfgs (dats m) 0 (V0 m) [hostOps1] c main_v48 = divided (F := Ideal) ((dats m 0 c).arrAt 6 cfg0.N) := by
  have e6 := Pipeline.withArrays_arr spec0 (by decide) c (V0 m c) (fun w => (dats m 0 c).arrAt w cfg0.N) 6
  have e0 := Pipeline.withArrays_of_ne spec0 c (V0 m c) (fun w => (dats m 0 c).arrAt w cfg0.N) main_v0 (by exact (by decide : ∀ w, Pipeline.arrRef spec0 w ≠ main_v0))
  have e1 := Pipeline.withArrays_of_ne spec0 c (V0 m c) (fun w => (dats m 0 c).arrAt w cfg0.N) main_v1 (by exact (by decide : ∀ w, Pipeline.arrRef spec0 w ≠ main_v1))
  rw [entry_root] at e0
  rw [entry_ln2] at e1
  unfold Pipeline.afterTail₀
  simp only [hostOps1, List.flatten_cons, List.flatten_nil, List.append_nil, List.cons_append, List.nil_append]
  after_results_simp
  erw [e0, e1]
  unfold divided
  exact congrArg (fun x : FVec Ideal S4096x1024 .bf16 => truncf .bf16 (Host.divf (extf .f32 x bitsLt_bf16_f32) (broadcastInDim S4096x1024 ![] bcast_S_S4096x1024 (mulf (ln2 (F := Ideal)) width))) bitsLt_bf16_f32) e6

end Cert.KernelIdeal.Hand

end
-- ==== Proof.Finite.lean ====
module

public import proofs.«01_k».proof.Defs
public import proofs.«01_k».proof.Proof.Results
public import proofs.«01_k».proof.Proof.Gen.Pre_finite

/-! What the precondition gives: arguments all of whose entries are real numbers. -/

@[expose] public section

set_option maxRecDepth 16384

noncomputable section

namespace Cert.Finite

open Idealize.ShloMosaic Idealize.ShloMosaic.TcCoe Cert.Attn
open Cert.ReferenceIdeal.Hand (Real2)

attribute [local instance] Cert.KernelIdeal.Gen.facts Cert.ReferenceIdeal.Gen.facts Cert.Pre_finite.Gen.facts

theorem ofBits_top : Ideal.ofBits .f32 0x7F800000#32 = ⊤ := by
  simp [Ideal.ofBits, Ideal.ieee]

/-- A number of finite size is real. -/
theorem real_of_lt (x : EReal) (h : max x (-x) < ⊤) : x = ((x.toReal : ℝ) : EReal) := by
  refine (EReal.coe_toReal ?_ ?_).symm
  · rintro rfl; simp at h
  · rintro rfl; simp at h

theorem all_of_and (a b c d : Bool) (h : IntOp.andi (IntOp.andi (IntOp.andi (BitVec.ofBool a) (BitVec.ofBool b)) (BitVec.ofBool c)) (BitVec.ofBool d) = 1#1) :
    a = true ∧ b = true ∧ c = true ∧ d = true := by
  revert h
  revert a b c d
  decide

/-- The real entries of an array. -/
def entries (x : FVec Ideal Cert.Pre_finite.S4096x1024 .bf16) : Mat := fun i c =>
  if h : i < 4096 ∧ c < 1024 then EReal.toReal (x (ix2 ⟨i, h.1⟩ ⟨c, h.2⟩)) else 0

variable {q k v g : FVec Ideal Cert.Pre_finite.S4096x1024 .bf16}

theorem at_index (h : Cert.Pre_finite.fn (F := Ideal) q k v g = fun _ => 1#1) (i : Fin 4096) (c : Fin 1024) :
    max (q (ix2 i c) : EReal) (-q (ix2 i c)) < ⊤ ∧ max (k (ix2 i c) : EReal) (-k (ix2 i c)) < ⊤
      ∧ max (v (ix2 i c) : EReal) (-v (ix2 i c)) < ⊤ ∧ max (g (ix2 i c) : EReal) (-g (ix2 i c)) < ⊤ := by
  have e := congrFun h (ix2 i c)
  revert e
  pointwise [Cert.Pre_finite.fn]
  intro e
  have e := all_of_and _ _ _ _ e
  rw [ofBits_top] at e
  exact ⟨of_decide_eq_true e.1, of_decide_eq_true e.2.1, of_decide_eq_true e.2.2.1, of_decide_eq_true e.2.2.2⟩

theorem entries_real {x : FVec Ideal Cert.Pre_finite.S4096x1024 .bf16}
    (h : ∀ (i : Fin 4096) (c : Fin 1024), max (x (ix2 i c) : EReal) (-x (ix2 i c)) < ⊤) : Real2 x (entries x) := by
  intro i c
  rw [entries, dif_pos ⟨i.isLt, c.isLt⟩]
  exact real_of_lt _ (h i c)

end Cert.Finite

end
-- ==== Proof.Backward.lean ====
module

public import proofs.«01_k».proof.Proof.Forward

/-!
The operations of the reference's gradients in order, by name.
-/

@[expose] public section

set_option maxRecDepth 16384

noncomputable section

namespace Cert.ReferenceIdeal.Hand

open Idealize.ShloMosaic Idealize.ShloMosaic.TcCoe
open Cert.ReferenceIdeal Cert.ReferenceIdeal.Gen Cert.Attn

section Operations
variable {F : FTy → Type} [FloatOps F]

/-- The row's maximum as the softmax subtracts it. -/
def shift (q k : FVec F S4096x1024 .bf16) : FVec F S8x4096 .f32 :=
  maximumf (broadcastInDim S8x4096 ![] bcast_S_S8x4096 (constant S_ .f32 0xFF800000#32)) (top q k)
/-- The arriving gradient, cut into its heads, rows last. -/
def arriving (g : FVec F S4096x1024 .bf16) : FVec F S8x128x4096 .f32 :=
  transpose S8x128x4096 [1, 2, 0] (heads g) transposes_S4096x8x128_S8x128x4096_1_2_0
/-- The gradient of the softmax. -/
def gains (v g : FVec F S4096x1024 .bf16) : FVec F S8x4096x4096 .f32 :=
  Host.dotGeneral dot_S8x128x4096_S4096x8x128_S8x4096x4096_1_2_2_0_0_1 none (arriving g) (heads v)
/-- The gradient of the sum of the exponentials. -/
def means (q k v g : FVec F S4096x1024 .bf16) (M : FVec F S8x4096 .f32) : FVec F S8x4096 .f32 :=
  Host.reduceAdd (Host.negf (shapeCast S8x4096x1 (Host.reduceAdd (mulf (mulf (gains v g) (broadcastInDim S8x4096x4096 ![0, 1, 2] bcast_S8x4096x1_S8x4096x4096_0_1_2 (Host.divf (broadcastInDim S8x4096x1 ![] bcast_S_S8x4096x1 (constant S_ .f32 0x3F800000#32)) (mulf (sums q k M) (sums q k M))))) (exps q k M)) (constant S_ .f32 0x00000000#32) reducesTo_S8x4096x4096_S8x4096_d2 h_S_) shapeCasts_S8x4096_S8x4096x1)) (constant S_ .f32 0x00000000#32) reducesTo_S8x4096x1_S8x4096_d2 h_S_
/-- The gradient of the scores, before the division by the root. -/
def slopes (q k v g : FVec F S4096x1024 .bf16) (M : FVec F S8x4096 .f32) : FVec F S8x4096x4096 .f32 :=
  Host.divf (select seen (mulf (addf (Host.divf (gains v g) (broadcastInDim S8x4096x4096 ![0, 1, 2] bcast_S8x4096x1_S8x4096x4096_0_1_2 (sums q k M))) (broadcastInDim S8x4096x4096 ![0, 1] bcast_S8x4096_S8x4096x4096_0_1 (means q k v g M))) (exps q k M)) (broadcastInDim S8x4096x4096 ![] bcast_S_S8x4096x4096 (constant S_ .f32 0x00000000#32))) (broadcastInDim S8x4096x4096 ![] bcast_S_S8x4096x4096 width)
/-- The three results. -/
def resQ (q k v g : FVec F S4096x1024 .bf16) : FVec F S4096x1024 .bf16 :=
  truncf .bf16 (shapeCast S4096x1024 (transpose S4096x8x128 [1, 0, 2] (Host.dotGeneral dot_S8x4096x4096_S4096x8x128_S8x4096x128_2_0_1_2_0_1 none (slopes q k v g (shift q k)) (heads k)) transposes_S8x4096x128_S4096x8x128_1_0_2) shapeCasts_S4096x8x128_S4096x1024) bitsLt_bf16_f32
def resK (q k v g : FVec F S4096x1024 .bf16) : FVec F S4096x1024 .bf16 :=
  truncf .bf16 (shapeCast S4096x1024 (transpose S4096x8x128 [1, 0, 2] (Host.dotGeneral dot_S8x4096x4096_S4096x8x128_S8x4096x128_1_0_2_2_0_1 none (slopes q k v g (shift q k)) (heads q)) transposes_S8x4096x128_S4096x8x128_1_0_2) shapeCasts_S4096x8x128_S4096x1024) bitsLt_bf16_f32
def resV (q k g : FVec F S4096x1024 .bf16) : FVec F S4096x1024 .bf16 :=
  truncf .bf16 (shapeCast S4096x1024 (transpose S4096x8x128 [2, 0, 1] (Host.dotGeneral dot_S8x128x4096_S8x4096x4096_S8x128x4096_2_1_1_2_0_0 none (arriving g) (probs q k (shift q k))) transposes_S8x128x4096_S4096x8x128_2_0_1) shapeCasts_S4096x8x128_S4096x1024) bitsLt_bf16_f32

end Operations

end Cert.ReferenceIdeal.Hand

end
-- ==== Proof.Reference.lean ====
module

public import proofs.«01_k».proof.Proof.Backward

/-!
The reference's results, entry by entry over the extended reals: where the arguments are real, they are
the gradients of causal softmax attention, head by head.
-/

@[expose] public section

set_option maxRecDepth 16384

noncomputable section

namespace Cert.ReferenceIdeal.Hand

open Idealize.ShloMosaic Idealize.ShloMosaic.TcCoe
open Cert.ReferenceIdeal Cert.ReferenceIdeal.Gen Cert.Attn

variable {q k v g : FVec Ideal S4096x1024 .bf16} {Q K V G : Mat}

theorem shift_eq (X : FVec Ideal S8x4096 .f32) (h : Fin 8) (i : Fin 4096) :
    maximumf (broadcastInDim S8x4096 ![] bcast_S_S8x4096 (constant (F := Ideal) S_ .f32 0xFF800000#32)) X (ix2 h i) = X (ix2 h i) := by
  pointwise
  rw [ofBits_bot, max_eq_right bot_le]

theorem shift_real (hq : Real2 q Q) (hk : Real2 k K) :
    ∃ T : ℕ → ℕ → ℝ, ∀ (h : Fin 8) (i : Fin 4096), shift q k (ix2 h i) = ((T h i : ℝ) : EReal) := by
  have e : ∀ (h : Fin 8) (i : Fin 4096), ∃ M : ℝ, shift q k (ix2 h i) = (M : EReal) := by
    intro h i
    obtain ⟨M, hM⟩ := top_real hq hk h i
    exact ⟨M, (shift_eq (top q k) h i).trans hM⟩
  choose T hT using e
  refine ⟨fun h i => if hh : h < 8 ∧ i < 4096 then T ⟨h, hh.1⟩ ⟨i, hh.2⟩ else 0, fun h i => ?_⟩
  simp only [h.isLt, i.isLt, and_self, dif_pos, Fin.eta]
  exact hT h i

theorem gains_real (hv : Real2 v V) (hg : Real2 g G) : Real3 (gains v g) fun h => gain (head V h) (head G h) := by
  intro h i c
  pointwise [gains, arriving]
  simp only [heads_real hv, heads_real hg, ← EReal.coe_mul, coe_sum]
  rfl

variable {M : FVec Ideal S8x4096 .f32} {T : ℕ → ℕ → ℝ}

theorem slopes_real (hq : Real2 q Q) (hk : Real2 k K) (hv : Real2 v V) (hg : Real2 g G)
    (hM : ∀ (h : Fin 8) (i : Fin 4096), M (ix2 h i) = ((T h i : ℝ) : EReal)) :
    Real3 (slopes q k v g M) fun h i c => slope (head Q h) (head K h) (head V h) (head G h) i c / root := by
  intro h i c
  have hZ := (div_pos (total_pos (head Q h) (head K h) i.isLt) (Real.exp_pos (T h i))).ne'
  pointwise [slopes, means, seen, width]
  rw [select_seen c.isLt i.isLt, sqrt_96]
  simp only [gains_real hv hg _ _ _, exps_real hq hk hM _ _ _, sums_real hq hk hM]
  simp only [← EReal.coe_mul, div_real _ hZ, show Ideal.div 1 ((total (head Q h) (head K h) i / Real.exp (T h i) * (total (head Q h) (head K h) i / Real.exp (T h i)) : ℝ) : EReal)
    = ((1 / (total (head Q h) (head K h) i / Real.exp (T h i) * (total (head Q h) (head K h) i / Real.exp (T h i))) : ℝ) : EReal) from div_real 1 (mul_ne_zero hZ hZ),
    coe_sum, ← EReal.coe_neg, ← EReal.coe_add]
  by_cases hc : c.val ≤ i.val
  · rw [if_pos hc, div_real _ root_ne]
    simp only [Finset.univ_unique, Finset.sum_singleton]
    rw [slope_quotient _ _ _ _ _ i.isLt]
  · rw [if_neg hc, slope_hidden _ _ _ _ (by omega), ← EReal.coe_zero, div_real _ root_ne]

theorem resQ_real (hq : Real2 q Q) (hk : Real2 k K) (hv : Real2 v V) (hg : Real2 g G) (i : Fin 4096) (h : Fin 8) (d : Fin 128) :
    resQ q k v g (ix2 i (⟨h * 128 + d, by omega⟩ : Fin 1024)) = ((gradQ (head Q h) (head K h) (head V h) (head G h) i d : ℝ) : EReal) := by
  obtain ⟨T, hT⟩ := shift_real hq hk
  pointwise [resQ]
  simp only [slopes_real hq hk hv hg hT _ _ _, heads_real hk, ← EReal.coe_mul, coe_sum]
  rw [gradQ, Finset.sum_div]
  congr 1
  exact Finset.sum_congr rfl fun _ _ => div_mul_eq_mul_div _ _ _

theorem resK_real (hq : Real2 q Q) (hk : Real2 k K) (hv : Real2 v V) (hg : Real2 g G) (i : Fin 4096) (h : Fin 8) (d : Fin 128) :
    resK q k v g (ix2 i (⟨h * 128 + d, by omega⟩ : Fin 1024)) = ((gradK (head Q h) (head K h) (head V h) (head G h) i d : ℝ) : EReal) := by
  obtain ⟨T, hT⟩ := shift_real hq hk
  pointwise [resK]
  simp only [slopes_real hq hk hv hg hT _ _ _, heads_real hq, ← EReal.coe_mul, coe_sum]
  rw [gradK, Finset.sum_div]
  congr 1
  exact Finset.sum_congr rfl fun _ _ => div_mul_eq_mul_div _ _ _

theorem resV_real (hq : Real2 q Q) (hk : Real2 k K) (hg : Real2 g G) (i : Fin 4096) (h : Fin 8) (d : Fin 128) :
    resV q k g (ix2 i (⟨h * 128 + d, by omega⟩ : Fin 1024)) = ((gradV (head Q h) (head K h) (head G h) i d : ℝ) : EReal) := by
  obtain ⟨T, hT⟩ := shift_real hq hk
  pointwise [resV]
  have ha : ∀ (d : Fin 128) (i : Fin 4096), arriving g (ix3 h d i) = ((head G h i d : ℝ) : EReal) := by
    intro d i
    pointwise [arriving]
    exact heads_real hg i h d
  simp only [probs_real hq hk hT _ _ _, ha, ← EReal.coe_mul, coe_sum]
  rw [gradV]
  congr 1
  exact Finset.sum_congr rfl fun _ _ => mul_comm _ _

end Cert.ReferenceIdeal.Hand

end
-- ==== Proof.Opened.lean ====
module

public import proofs.«01_k».proof.Proof.Backward
public import proofs.«01_k».proof.Proof.Gen.ReferenceIdeal.Run

/-! The reference's composed results, by the named operations. -/

@[expose] public section

set_option maxRecDepth 16384

noncomputable section

namespace Cert.ReferenceIdeal.Hand

open Idealize.ShloMosaic Idealize.ShloMosaic.TcCoe
open Cert.ReferenceIdeal Cert.ReferenceIdeal.Gen Cert.Attn

variable {F : FTy → Type} [FloatOps F]
variable (m : (ℓ : Loc nD τ sig) → Buf (Elt F) ℓ) (c : Dev nD)

theorem out0_eq : Value.res_out0 m c = resQ (m ((c.tc : Thread nD τ).loc main_arg0)) (m ((c.tc : Thread nD τ).loc main_arg1)) (m ((c.tc : Thread nD τ).loc main_arg2)) (m ((c.tc : Thread nD τ).loc main_arg3)) := by
  unfold Value.res_out0 Value.res_main_v73 resQ
  delta slopes means gains arriving shift probs sums exps top scores width seen heads
  rfl

theorem out1_eq : Value.res_out1 m c = resK (m ((c.tc : Thread nD τ).loc main_arg0)) (m ((c.tc : Thread nD τ).loc main_arg1)) (m ((c.tc : Thread nD τ).loc main_arg2)) (m ((c.tc : Thread nD τ).loc main_arg3)) := by
  unfold Value.res_out1 Value.res_main_v75 resK
  delta slopes means gains arriving shift probs sums exps top scores width seen heads
  rfl

theorem out2_eq : Value.res_out2 m c = resV (m ((c.tc : Thread nD τ).loc main_arg0)) (m ((c.tc : Thread nD τ).loc main_arg1)) (m ((c.tc : Thread nD τ).loc main_arg3)) := by
  unfold Value.res_out2 Value.res_main_v77 resV
  delta slopes means gains arriving shift probs sums exps top scores width seen heads
  rfl

end Cert.ReferenceIdeal.Hand

end
-- ==== Proof.Value.lean ====
module

public import proofs.«01_k».proof.Defs
public import proofs.«01_k».proof.Proof.Finite
public import proofs.«01_k».proof.Proof.Launch
public import proofs.«01_k».proof.Proof.Reference
public import proofs.«01_k».proof.Proof.Opened
public import proofs.«01_k».proof.Proof.Gen.ReferenceIdeal.Run

/-! The value claim: over the reals both programs end with the same three gradients. -/

@[expose] public section

set_option maxRecDepth 16384

noncomputable section

namespace Cert.Proof

open Idealize.ShloMosaic Idealize.ShloMosaic.TcCoe Idealize.SL.Sem Cert.Attn
open Cert.ReferenceIdeal.Hand (Real2 head resQ resK resV resQ_real resK_real resV_real out0_eq out1_eq out2_eq)
open Cert.KernelIdeal.Hand (whole whole_apply RealArgs)

attribute [local instance] Cert.KernelIdeal.Gen.facts Cert.ReferenceIdeal.Gen.facts Cert.Pre_finite.Gen.facts

/-- An array is known from its heads. -/
theorem whole_of {x : FVec Ideal Cert.ReferenceIdeal.S4096x1024 .bf16} {f : ℕ → Mat}
    (h : ∀ (i : Fin 4096) (n : Fin 8) (d : Fin 128), x (ix2 i (⟨n * 128 + d, by omega⟩ : Fin 1024)) = ((f n i d : ℝ) : EReal)) :
    x = whole f := by
  funext j
  have hj : j = ix2 (n0 := 4096) (n1 := 1024) (j 0) (j 1) := by funext a; fin_cases a <;> rfl
  have hl : (j 1).val < 1024 := (j 1).isLt
  have e : j = ix2 (n0 := 4096) (j 0) (⟨(⟨(j 1).val / 128, by omega⟩ : Fin 8) * 128 + (⟨(j 1).val % 128, by omega⟩ : Fin 128), by
      show (j 1).val / 128 * 128 + (j 1).val % 128 < 1024; omega⟩ : Fin 1024) := by
    refine hj.trans (congrArg (ix2 (n0 := 4096) (n1 := 1024) (j 0)) (Fin.ext ?_))
    show (j 1).val = (j 1).val / 128 * 128 + (j 1).val % 128
    omega
  exact (congrArg x e).trans (h (j 0) ⟨(j 1).val / 128, by omega⟩ ⟨(j 1).val % 128, by omega⟩)

variable (m : (ℓ : Loc Cert.KernelIdeal.nD Cert.KernelIdeal.τ Cert.KernelIdeal.sig) → Buf (Elt Ideal) ℓ) (c : Dev Cert.KernelIdeal.nD)

abbrev argQ : Mat := Finite.entries (m ((c.tc : Thread Cert.KernelIdeal.nD Cert.KernelIdeal.τ).loc Cert.KernelIdeal.main_arg0))
abbrev argK : Mat := Finite.entries (m ((c.tc : Thread Cert.KernelIdeal.nD Cert.KernelIdeal.τ).loc Cert.KernelIdeal.main_arg1))
abbrev argV : Mat := Finite.entries (m ((c.tc : Thread Cert.KernelIdeal.nD Cert.KernelIdeal.τ).loc Cert.KernelIdeal.main_arg2))
abbrev argG : Mat := Finite.entries (m ((c.tc : Thread Cert.KernelIdeal.nD Cert.KernelIdeal.τ).loc Cert.KernelIdeal.main_arg3))

/-- The gradients of the queries, the keys and the values. -/
def wholeQ : FVec Ideal Cert.KernelIdeal.S4096x1024 .bf16 :=
  whole fun h => gradQ (head (argQ m c) h) (head (argK m c) h) (head (argV m c) h) (head (argG m c) h)
def wholeK : FVec Ideal Cert.KernelIdeal.S4096x1024 .bf16 :=
  whole fun h => gradK (head (argQ m c) h) (head (argK m c) h) (head (argV m c) h) (head (argG m c) h)
def wholeV : FVec Ideal Cert.KernelIdeal.S4096x1024 .bf16 :=
  whole fun h => gradV (head (argQ m c) h) (head (argK m c) h) (head (argG m c) h)

variable {m c}

theorem real_args (hm : Cert.Pre_KernelIdeal_finite m) : RealArgs m c (argQ m c) (argK m c) (argV m c) (argG m c) where
  of_q := Finite.entries_real fun i l => (Finite.at_index (hm c) i l).1
  of_k := Finite.entries_real fun i l => (Finite.at_index (hm c) i l).2.1
  of_v := Finite.entries_real fun i l => (Finite.at_index (hm c) i l).2.2.1
  of_g := Finite.entries_real fun i l => (Finite.at_index (hm c) i l).2.2.2

open Cert.KernelIdeal Cert.KernelIdeal.Gen Cert.KernelIdeal.Hand in
/-- The kernel's gradient of the queries. -/
theorem kernel_dq (hm : Cert.Pre_KernelIdeal_finite m) :
    Pipeline.afterTail₀ cfgs (dats m) 0 (V0 m) [hostOps1] c main_v48 = wholeQ m c := by
  rw [tail_dq m c]
  refine (divided_real (final_dq (real_args hm))).trans ?_
  unfold wholeQ
  congr 1
  funext h i d
  rw [parts_all, gradQ]

/-- The reference's three results. -/
theorem reference_dq (hm : Cert.Pre_KernelIdeal_finite m) : resQ (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) = wholeQ m c :=
  have R : RealArgs m c _ _ _ _ := real_args hm
  whole_of fun i n d => resQ_real R.of_q R.of_k R.of_v R.of_g i n d

theorem reference_dk (hm : Cert.Pre_KernelIdeal_finite m) : resK (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) = wholeK m c :=
  have R : RealArgs m c _ _ _ _ := real_args hm
  whole_of fun i n d => resK_real R.of_q R.of_k R.of_v R.of_g i n d

theorem reference_dv (hm : Cert.Pre_KernelIdeal_finite m) : resV (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg3)) = wholeV m c :=
  have R : RealArgs m c _ _ _ _ := real_args hm
  whole_of fun i n d => resV_real R.of_q R.of_k R.of_g i n d

/-- Where the arguments agree, the reference's three results are the gradients. -/
theorem reference_ends {m' : (ℓ : Loc Cert.ReferenceIdeal.nD Cert.ReferenceIdeal.τ Cert.ReferenceIdeal.sig) → Buf (Elt Ideal) ℓ} (hm : Cert.Pre_KernelIdeal_finite m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_out0 m' c = wholeQ m c ∧ Cert.ReferenceIdeal.Value.res_out1 m' c = wholeK m c ∧ Cert.ReferenceIdeal.Value.res_out2 m' c = wholeV m c := by
  rw [out0_eq, out1_eq, out2_eq, h0, h1, h2, h3]
  exact ⟨reference_dq hm, reference_dk hm, reference_dv hm⟩

open Cert.KernelIdeal Cert.KernelIdeal.Gen Cert.KernelIdeal.Hand in
/-- The kernel's run ends with the three gradients. -/
theorem kernel_ends (ρ : Dev Cert.KernelIdeal.nD → PrngReg) (hm : Cert.Pre_KernelIdeal_finite m) :
    θ_run defs (onTc (τ := τ) (main (F := Ideal))) ⟨m, fun _ => 0, ρ⟩ (fun r => ∀ c : Dev nD,
      r.2.mem ((c.tc : Thread nD τ).loc main_v48) = wholeQ m c
      ∧ r.2.mem ((c.tc : Thread nD τ).loc main_v43_1) = wholeK m c
      ∧ r.2.mem ((c.tc : Thread nD τ).loc main_v43_2) = wholeV m c) :=
  (θ_run defs _ _).mono (fun r h c =>
    ⟨((h.1 c).2 main_v48 (Pipeline.mem_restRefs_of main_v48 (by decide) (by decide))).trans (kernel_dq hm),
      ((h.1 c).1 7).trans (final_dk (real_args hm)), ((h.1 c).1 8).trans (final_dv (real_args hm))⟩) (run_quiescent m ρ)

/-- Over the reals the kernel ends with the reference's gradients. -/
theorem gradients : Cert.algebraic_KernelIdeal_ReferenceIdeal_pre_finite := by
  intro m ρ m' ρ' hm ha
  refine ⟨fun c => wholeQ m c, fun c => wholeK m c, fun c => wholeV m c, ?_, ?_⟩
  · exact (θ_run Cert.KernelIdeal.defs _ _).mono (fun r h c => ⟨(h.1 c).1, (h.1 c).2.1, (h.1 c).2.2, h.2.1 c⟩)
      (θ_run_and (kernel_ends ρ hm) (Cert.KernelIdeal.Hand.run_frame m ρ))
  · exact (θ_run Cert.ReferenceIdeal.defs _ _).mono (fun r h c =>
      have e := reference_ends (c := c) hm (ha c).1 (ha c).2.1 (ha c).2.2.1 (ha c).2.2.2
      ⟨(h c).1.trans e.1, (h c).2.1.trans e.2.1, (h c).2.2.1.trans e.2.2, (h c).2.2.2⟩) (Cert.ReferenceIdeal.Value.run m' ρ')

end Cert.Proof

end
-- ==== Proof.Product.lean ====
module

public import Idealize.ShloMosaic.Lib.Pipeline.ValueKit
public import proofs.«01_k».proof.Proof.Softmax
public import Idealize.ShloMosaic.Lib.Pointwise

/-!
The three products of matrices that the calls take, as plain sums over the extended reals:
rows by columns, rows by rows (the gradient of the first factor) and columns by columns (of the second).
-/

@[expose] public section

noncomputable section

namespace Cert.Product

open Idealize.ShloMosaic Idealize.SL.Sem

variable {m k n : ℕ} {φ ψ χ : FTy}

/-- Rows by columns. -/
def rowCol (χ : FTy) (a : FVec Ideal ⟨2, ![m, k]⟩ φ) (b : FVec Ideal ⟨2, ![k, n]⟩ ψ) : FVec Ideal ⟨2, ![m, n]⟩ χ :=
  fun i => ((∑ p : Fin k, (a (ix2 (n0 := m) (i 0) p) : EReal) * (b (ix2 (n1 := n) p (i 1)) : EReal) : EReal))

/-- Rows by rows. -/
def rowRow (χ : FTy) (a : FVec Ideal ⟨2, ![m, k]⟩ φ) (b : FVec Ideal ⟨2, ![n, k]⟩ ψ) : FVec Ideal ⟨2, ![m, n]⟩ χ :=
  fun i => ((∑ p : Fin k, (a (ix2 (n0 := m) (i 0) p) : EReal) * (b (ix2 (n0 := n) (i 1) p) : EReal) : EReal))

/-- Columns by columns. -/
def colCol (χ : FTy) (a : FVec Ideal ⟨2, ![k, m]⟩ φ) (b : FVec Ideal ⟨2, ![k, n]⟩ ψ) : FVec Ideal ⟨2, ![m, n]⟩ χ :=
  fun i => ((∑ p : Fin k, (a (ix2 (n1 := m) p (i 0)) : EReal) * (b (ix2 (n1 := n) p (i 1)) : EReal) : EReal))

/-- An array added to another, entry by entry. -/
def sum (a b : FVec Ideal ⟨2, ![m, n]⟩ φ) : FVec Ideal ⟨2, ![m, n]⟩ φ := fun i => (((a i : EReal) + (b i : EReal) : EReal))

variable {M N : ℕ}

/-- An entry of a product needs one row or column of each factor only: so a tile's entries are the whole product's. -/
theorem rowCol_of {a : FVec Ideal ⟨2, ![m, k]⟩ φ} {b : FVec Ideal ⟨2, ![k, n]⟩ ψ} {A : FVec Ideal ⟨2, ![M, k]⟩ φ} {B : FVec Ideal ⟨2, ![k, N]⟩ ψ}
    {y : (⟨2, ![m, n]⟩ : Shape).Idx} {i : (⟨2, ![M, N]⟩ : Shape).Idx}
    (ha : ∀ p, a (ix2 (n0 := m) (y 0) p) = A (ix2 (n0 := M) (i 0) p)) (hb : ∀ p, b (ix2 (n1 := n) p (y 1)) = B (ix2 (n1 := N) p (i 1))) :
    rowCol χ a b y = rowCol χ A B i :=
  Finset.sum_congr rfl fun p _ => congrArg₂ (fun u v : EReal => u * v) (ha p) (hb p)

theorem rowRow_of {a : FVec Ideal ⟨2, ![m, k]⟩ φ} {b : FVec Ideal ⟨2, ![n, k]⟩ ψ} {A : FVec Ideal ⟨2, ![M, k]⟩ φ} {B : FVec Ideal ⟨2, ![N, k]⟩ ψ}
    {y : (⟨2, ![m, n]⟩ : Shape).Idx} {i : (⟨2, ![M, N]⟩ : Shape).Idx}
    (ha : ∀ p, a (ix2 (n0 := m) (y 0) p) = A (ix2 (n0 := M) (i 0) p)) (hb : ∀ p, b (ix2 (n0 := n) (y 1) p) = B (ix2 (n0 := N) (i 1) p)) :
    rowRow χ a b y = rowRow χ A B i :=
  Finset.sum_congr rfl fun p _ => congrArg₂ (fun u v : EReal => u * v) (ha p) (hb p)

theorem colCol_of {a : FVec Ideal ⟨2, ![k, m]⟩ φ} {b : FVec Ideal ⟨2, ![k, n]⟩ ψ} {A : FVec Ideal ⟨2, ![k, M]⟩ φ} {B : FVec Ideal ⟨2, ![k, N]⟩ ψ}
    {y : (⟨2, ![m, n]⟩ : Shape).Idx} {i : (⟨2, ![M, N]⟩ : Shape).Idx}
    (ha : ∀ p, a (ix2 (n1 := m) p (y 0)) = A (ix2 (n1 := M) p (i 0))) (hb : ∀ p, b (ix2 (n1 := n) p (y 1)) = B (ix2 (n1 := N) p (i 1))) :
    colCol χ a b y = colCol χ A B i :=
  Finset.sum_congr rfl fun p _ => congrArg₂ (fun u v : EReal => u * v) (ha p) (hb p)

theorem sum_of {a b : FVec Ideal ⟨2, ![m, n]⟩ φ} {A B : FVec Ideal ⟨2, ![M, N]⟩ φ} {y : (⟨2, ![m, n]⟩ : Shape).Idx} {i : (⟨2, ![M, N]⟩ : Shape).Idx}
    (ha : a y = A i) (hb : b y = B i) : sum a b y = sum A B i :=
  congrArg₂ (fun u v : EReal => u + v) ha hb

theorem origin : (![0, 0] : Fin 2 → ℕ) = fun _ => 0 := by decide

/-- An index is the pair of its coordinates. -/
theorem pair (y : (⟨2, ![m, n]⟩ : Shape).Idx) : y = ix2 (n0 := m) (n1 := n) (y 0) (y 1) := by
  funext a; fin_cases a <;> rfl

/-! ### The operations of the programs that compute them, at any sizes -/

section Operations

/-- A contraction over one axis, as a sum over that axis. -/
theorem contract {sl sr so : Shape} (d : DotDims sl sr so) {a : Fin sl.rank} (one : d.lhsContracting = [a]) {K : ℕ} (len : sl.size a = K)
    (x : sl.Idx → EReal) (w : sr.Idx → EReal) (i : so.Idx) (l : Fin K → sl.Idx) (r : Fin K → sr.Idx)
    (hl : ∀ p, d.lhsIdx i (d.contrIdx₁ one len p) = l p) (hr : ∀ p, d.rhsIdx i (d.contrIdx₁ one len p) = r p) :
    ∑ p : d.contr.Idx, x (d.lhsIdx i p) * w (d.rhsIdx i p) = ∑ p : Fin K, x (l p) * w (r p) :=
  (d.sum_contr₁ one len _).trans (Finset.sum_congr rfl fun p _ => by rw [hl, hr])

/-- Columns against columns: the record both printers give such a product. -/
def columns (m k n : ℕ) (wf : DotDims.WF (⟨2, ![k, m]⟩ : Shape) ⟨2, ![k, n]⟩ ⟨2, ![m, n]⟩ [0] [0] [1] [1] [] []) :
    DotDims ⟨2, ![k, m]⟩ ⟨2, ![k, n]⟩ ⟨2, ![m, n]⟩ := ⟨[0], [0], [1], [1], [], [], wf⟩

theorem plain_sum (a : FVec Ideal ⟨2, ![m, k]⟩ φ) (b : FVec Ideal ⟨2, ![k, n]⟩ ψ) (i) :
    ∑ p : (DotDims.plain m k n).contr.Idx, (a ((DotDims.plain m k n).lhsIdx i p) : EReal) * b ((DotDims.plain m k n).rhsIdx i p) = rowCol χ a b i :=
  contract (DotDims.plain m k n) (a := 1) rfl (K := k) rfl a b i (ix2 (n0 := m) (i 0) ·) (ix2 (n1 := n) · (i 1))
    (fun p => by funext x; fin_cases x <;> rfl) (fun p => by funext x; fin_cases x <;> rfl)

theorem rows_sum (a : FVec Ideal ⟨2, ![m, k]⟩ φ) (b : FVec Ideal ⟨2, ![n, k]⟩ ψ) (i) :
    ∑ p : (DotDims.transposedRhs m k n).contr.Idx, (a ((DotDims.transposedRhs m k n).lhsIdx i p) : EReal) * b ((DotDims.transposedRhs m k n).rhsIdx i p)
      = rowRow χ a b i :=
  contract (DotDims.transposedRhs m k n) (a := 1) rfl (K := k) rfl a b i (ix2 (n0 := m) (i 0) ·) (ix2 (n0 := n) (i 1) ·)
    (fun p => by funext x; fin_cases x <;> rfl) (fun p => by funext x; fin_cases x <;> rfl)

theorem columns_sum (wf) (a : FVec Ideal ⟨2, ![k, m]⟩ φ) (b : FVec Ideal ⟨2, ![k, n]⟩ ψ) (i) :
    ∑ p : (columns m k n wf).contr.Idx, (a ((columns m k n wf).lhsIdx i p) : EReal) * b ((columns m k n wf).rhsIdx i p) = colCol χ a b i :=
  contract (columns m k n wf) (a := 0) rfl (K := k) rfl a b i (ix2 (n1 := m) · (i 0)) (ix2 (n1 := n) · (i 1))
    (fun p => by funext x; fin_cases x <;> rfl) (fun p => by funext x; fin_cases x <;> rfl)

theorem matmul_rowCol (a : FVec Ideal ⟨2, ![m, k]⟩ φ) (b : FVec Ideal ⟨2, ![k, n]⟩ ψ) :
    matmul (.plain m k n) none a b (constant ⟨2, ![m, n]⟩ .f32 0x00000000#32) = rowCol .f32 a b :=
  funext fun i => (Ideal.matmul_constant_zero_apply _ none a b i).trans (plain_sum a b i)

theorem matmul_rowRow (a : FVec Ideal ⟨2, ![m, k]⟩ φ) (b : FVec Ideal ⟨2, ![n, k]⟩ ψ) :
    matmul (.transposedRhs m k n) none a b (constant ⟨2, ![m, n]⟩ .f32 0x00000000#32) = rowRow .f32 a b :=
  funext fun i => (Ideal.matmul_constant_zero_apply _ none a b i).trans (rows_sum a b i)

theorem matmul_colCol (wf) (a : FVec Ideal ⟨2, ![k, m]⟩ φ) (b : FVec Ideal ⟨2, ![k, n]⟩ ψ) :
    matmul (columns m k n wf) none a b (constant ⟨2, ![m, n]⟩ .f32 0x00000000#32) = colCol .f32 a b :=
  funext fun i => (Ideal.matmul_constant_zero_apply _ none a b i).trans (columns_sum wf a b i)

theorem host_rowCol (a : FVec Ideal ⟨2, ![m, k]⟩ φ) (b : FVec Ideal ⟨2, ![k, n]⟩ ψ) :
    Host.dotGeneral (.plain m k n) none a b = rowCol .f32 a b :=
  funext fun i => (Ideal.dotGeneral_apply _ none _ a b i).trans (plain_sum a b i)

theorem host_rowRow (a : FVec Ideal ⟨2, ![m, k]⟩ φ) (b : FVec Ideal ⟨2, ![n, k]⟩ ψ) :
    Host.dotGeneral (.transposedRhs m k n) none a b = rowRow .f32 a b :=
  funext fun i => (Ideal.dotGeneral_apply _ none _ a b i).trans (rows_sum a b i)

/-- A product with an array added, as the kernel has it … -/
theorem matmul_sum (a : FVec Ideal ⟨2, ![m, k]⟩ φ) (b : FVec Ideal ⟨2, ![k, n]⟩ ψ) (c : FVec Ideal ⟨2, ![m, n]⟩ .f32) :
    addf (matmul (.plain m k n) none a b (constant ⟨2, ![m, n]⟩ .f32 0x00000000#32)) c = sum (rowCol .f32 a b) c :=
  congrArg (sum · c) (matmul_rowCol a b)

/-- … and as the reference does. -/
theorem host_sum (a : FVec Ideal ⟨2, ![m, k]⟩ φ) (b : FVec Ideal ⟨2, ![k, n]⟩ ψ) (c : FVec Ideal ⟨2, ![m, n]⟩ .f32) :
    addf c (Host.dotGeneral (.plain m k n) none a b) = sum (rowCol .f32 a b) c :=
  (congrArg (sum c) (host_rowCol a b)).trans (funext fun i => add_comm (_ : EReal) _)

/-- A transpose, entry by entry. -/
theorem flipped (tr) (a : FVec Ideal ⟨2, ![k, m]⟩ φ) (i) : transpose ⟨2, ![m, k]⟩ [1, 0] a tr i = a (ix2 (n0 := k) (n1 := m) (i 1) (i 0)) :=
  congrArg a (by funext x; fin_cases x <;> rfl)

/-- The reference's gradient of a weight: the product the other way round, transposed. -/
theorem host_colCol (wf) (tr) (a : FVec Ideal ⟨2, ![k, m]⟩ φ) (b : FVec Ideal ⟨2, ![k, n]⟩ ψ) :
    transpose ⟨2, ![m, n]⟩ [1, 0] (Host.dotGeneral (columns n k m wf) none b a) tr = colCol .f32 a b :=
  funext fun i => (flipped (φ := .f32) tr _ i).trans ((Ideal.dotGeneral_apply (columns n k m wf) none _ b a _).trans
    ((columns_sum (χ := .f32) wf b a _).trans (Finset.sum_congr rfl fun p _ => mul_comm (_ : EReal) _)))

/-- A product with the transposed factor that a cached kernel keeps. -/
theorem cached_colCol (tr) (sc) (a : FVec Ideal ⟨2, ![k, m]⟩ φ) (b : FVec Ideal ⟨2, ![k, n]⟩ ψ) :
    matmul (.plain m k n) none (shapeCast ⟨2, ![m, k]⟩ (transpose ⟨2, ![m, k]⟩ [1, 0] a tr) sc) b (constant ⟨2, ![m, n]⟩ .f32 0x00000000#32) = colCol .f32 a b := by
  rw [matmul_rowCol]
  funext y
  refine Finset.sum_congr rfl fun p _ => congrArg (fun u : EReal => u * _) ?_
  pointwise
  exact flipped (φ := φ) tr a _

end Operations

/-! ### A body's loads and stores of whole buffers -/

section Bodies

variable {Val : EltTy → Type} [∀ e, Nonempty (Val e)] {sig : RefSig} {κ : Kind} {S : Shape} {e : EltTy} {sp : Space} {os : Fin S.rank → ℕ}

theorem stored_at (zero : os = fun _ => 0) (v : View sig κ sp S e) (f) (inb) (x : S.Idx → Val e) :
    v.read Val (v.writes Val f [(⟨Rect.unit os S.size inb, x⟩ : View.Piece Val S e)]) = x := by
  rw [View.read_writes_eq_canon v f _ fun y => ⟨_, List.mem_singleton_self _, View.mem_set_unit_zero zero inb y⟩]
  exact View.canon_unit_zero zero inb x

theorem loaded_at (zero : os = fun _ => 0) (a : Memref sig κ sp S e) (h : a.IsWhole) (inb) (x : S.Idx → Val e) :
    a.view.readAt Val (Rect.unit os S.size inb).toLoadRect (h.unread x) = x := by
  rw [View.readAt_eq_ld, h.read_unread]
  exact View.ld_unit_zero zero inb x

end Bodies

/-- What is kept at every restart and carried between is there after every point. -/
theorem carried {α β : Type} {N g : ℕ} (o : ∀ n, n < N → α × β) (f : Fin N → β → α) (u : β)
    (restart : ∀ t : Fin N, t.val % g = 0 → o t.val t.isLt = (f t u, u))
    (carry : ∀ t : Fin N, ¬t.val % g = 0 → o t.val t.isLt = (f t (o (t.val - 1) (Nat.lt_of_le_of_lt (Nat.sub_le _ _) t.isLt)).2, (o (t.val - 1) (Nat.lt_of_le_of_lt (Nat.sub_le _ _) t.isLt)).2)) :
    ∀ (n : ℕ) (h : n < N), o n h = (f ⟨n, h⟩ u, u)
  | 0, h => restart ⟨0, h⟩ (Nat.zero_mod _)
  | n + 1, h => by
    by_cases h0 : (n + 1) % g = 0
    · exact restart ⟨n + 1, h⟩ h0
    · have before := carried o f u restart carry n (Nat.lt_of_succ_lt h)
      refine (carry ⟨n + 1, h⟩ h0).trans ?_
      show (f ⟨n + 1, h⟩ (o n _).2, (o n _).2) = _
      rw [before]

/-! ### Runs -/

section Runs

variable {nD : ℕ} {τ : Topo} {sig : RefSig} {Val : EltTy → Type} {Λ : Idealize.SL.Sem.Labels} {defs : Defs nD τ sig Val Λ}
  {run : (c : Thread nD τ) → Prog (TpuEff nD τ sig Val Λ c.2) PUnit} {start : MemSt nD τ sig Val}

/-- A run's named results, under other names. -/
theorem renamed {α : Dev nD → Type} {got : (c : Dev nD) → PUnit × MemSt nD τ sig Val → α c} {A B : (c : Dev nD) → α c} {K : Dev nD → PUnit × MemSt nD τ sig Val → Prop}
    (h : θ_run defs run start fun r => ∀ c, got c r = A c ∧ K c r) (e : ∀ c, A c = B c) : θ_run defs run start fun r => ∀ c, got c r = B c ∧ K c r :=
  (funext e : A = B) ▸ h

/-- A run of a program without semaphores leaves them at zero. -/
theorem quiet {A K : Dev nD → PUnit × MemSt nD τ sig Val → Prop} (none : sig.nSem + sig.nDmaSem = 0)
    (h : θ_run defs run start fun r => ∀ c, A c r ∧ K c r) : θ_run defs run start fun r => (∀ c, K c r) ∧ r.2.sem = fun _ => 0 :=
  θ_run_mono h fun r hr => ⟨fun c => (hr c).2, sem_eq_zero_of_no_sems none r.2⟩

end Runs

/-- An entry of an array known whole. -/
theorem entry {ι α : Type} {A B : ι → α} {x : α} {i j : ι} (h : A = B) (at_i : x = A i) (e : i = j) : x = B j := at_i.trans (h ▸ e ▸ rfl)

end Cert.Product

end
-- ==== Proof.Up.lean ====
module

public import proofs.«01_k».proof.Defs
public import proofs.«01_k».proof.Proof.Product
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run

/-! The feed-forward block's first product (program 2), the gradient of its input (3) and of its weight (4). -/

@[expose] public section

set_option maxRecDepth 16384

noncomputable section

open Idealize.ShloMosaic Idealize.ShloMosaic.TcCoe Idealize.SL.Sem Cert.Product

namespace Cert.Kernel2Ideal.Hand

open Cert.Kernel2Ideal.Gen

theorem index_0 : ∀ t : Fin cfg0.N, win0_0.index t = ![t.val / 4, 0] := (by decide +kernel : ∀ t : Fin grid0.N, _)
theorem index_1 : ∀ t : Fin cfg0.N, win0_1.index t = ![0, t.val % 4] := (by decide +kernel : ∀ t : Fin grid0.N, _)
theorem index_2 : ∀ t : Fin cfg0.N, win0_2.index t = ![t.val / 4, t.val % 4] := (by decide +kernel : ∀ t : Fin grid0.N, _)

variable (m : (ℓ : Loc nD τ sig) → Buf (Elt Ideal) ℓ) (c : Dev nD)

theorem product : (dats m 0 c).arrAt 2 cfg0.N
    = rowCol (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_rowCol (φ := .bf16) (ψ := .bf16) _ _) y).trans
    (rowCol_of (fun p => entry (V_main_arg0 m c) rfl ?_) (fun p => entry (V_main_arg1 m c) rfl ?_))
  · blk_ext [index_0, index_2]
  · blk_ext [index_1, index_2]

end Cert.Kernel2Ideal.Hand

namespace Cert.Kernel3Ideal.Hand

open Cert.Kernel3Ideal.Gen

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem product : (dats m 0 c).arrAt 2 cfg0.N
    = rowRow (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_rowRow (φ := .bf16) (ψ := .bf16) _ _) y).trans
    (rowRow_of (fun p => entry (V_main_arg0 m c) rfl ?_) (fun p => entry (V_main_arg1 m c) rfl ?_))
  · blk_ext [index_0, index_2]
  · blk_ext [index_1, index_2]

end Cert.Kernel3Ideal.Hand

namespace Cert.Kernel4Ideal.Hand

open Cert.Kernel4Ideal.Gen

theorem index_0 : ∀ t : Fin cfg0.N, win0_0.index t = ![0, 0] := (by decide +kernel : ∀ t : Fin grid0.N, _)
theorem index_1 : ∀ t : Fin cfg0.N, win0_1.index t = ![0, t.val] := (by decide +kernel : ∀ t : Fin grid0.N, _)
theorem index_2 : ∀ t : Fin cfg0.N, win0_2.index t = ![0, t.val] := (by decide +kernel : ∀ t : Fin grid0.N, _)

variable (m : (ℓ : Loc nD τ sig) → Buf (Elt Ideal) ℓ) (c : Dev nD)

theorem first_block (t : Fin cfg0.N) : iblk m c 0 t = (m ((c.tc : Thread nD τ).loc main_arg0) : FVec Ideal S4096x1024 .bf16) :=
  funext fun y => entry (V_main_arg0 m c) rfl (by blk_ext [index_0])

/-- Each point's tile, and the transposed factor that it leaves in the scratch. -/
theorem points (n : ℕ) (h : n < cfg0.N) : outsAt0 m c n h
    = (k0_pay2 (k0_pay1 (m ((c.tc : Thread nD τ).loc main_arg0))) (iblk m c 1 ⟨n, h⟩), k0_pay1 (F := Ideal) (m ((c.tc : Thread nD τ).loc main_arg0))) :=
  carried (outsAt0 m c) (fun t s => k0_pay2 s (iblk m c 1 t)) _
    (fun t h => by
      rw [outsAt0_A m c t h, ← first_block m c t]
      unfold out0_A_2 sout0_A_0 kernelRun0_A
      dsimp only
      sl_unfold_words
      rw [stored_at (S := S1024x512) origin, stored_at (S := S1024x4096) origin, loaded_at (S := S4096x1024) origin, loaded_at (S := S4096x512) origin,
        View.readCov_unit_zero (S := S1024x4096) _ origin])
    (fun t h => by
      rw [outsAt0_B m c t h]
      unfold out0_B_2 sout0_B_0 kernelRun0_B
      dsimp only
      rw [stored_at (S := S1024x512) origin, loaded_at (S := S4096x512) origin]
      exact congrArg (fun s => (k0_pay2 s _, _)) (loaded_at (S := S1024x4096) origin scM0_0 (Memref.isWhole_whole _) _ _)) n h

theorem product : (dats m 0 c).arrAt 2 cfg0.N
    = colCol (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2, points]
  refine (congrFun (cached_colCol (φ := .bf16) (ψ := .bf16) _ _ _ _) y).trans
    (colCol_of (fun p => congrArg (m ((c.tc : Thread nD τ).loc main_arg0)) ?_) (fun p => entry (V_main_arg1 m c) rfl ?_))
  · blk_ext [index_2]
  · blk_ext [index_1, index_2]

end Cert.Kernel4Ideal.Hand

namespace Cert.Proof

attribute [local instance] Cert.Kernel2.Gen.facts Cert.Kernel2Ideal.Gen.facts Cert.Reference2Ideal.Gen.facts
  Cert.Kernel3.Gen.facts Cert.Kernel3Ideal.Gen.facts Cert.Reference3Ideal.Gen.facts
  Cert.Kernel4.Gen.facts Cert.Kernel4Ideal.Gen.facts Cert.Reference4Ideal.Gen.facts

theorem frame_kernel2 : Cert.quiescent_Kernel2 := fun m ρ _ => Cert.Kernel2.Gen.frame m ρ
theorem frame_ideal2 : Cert.quiescent_Kernel2Ideal := fun m ρ _ => Cert.Kernel2Ideal.Gen.frame m ρ
theorem frame_reference2 : Cert.quiescent_Reference2Ideal := fun m ρ _ => quiet (by decide) (Cert.Reference2Ideal.Value.run m ρ)
theorem value2 : Cert.algebraic_Kernel2Ideal_Reference2Ideal := fun m ρ m' ρ' _ same =>
  ⟨_, renamed (Cert.Kernel2Ideal.Value.run_blocks m ρ) (Cert.Kernel2Ideal.Hand.product m), renamed (Cert.Reference2Ideal.Value.run m' ρ') fun c => by
    rw [(same c).1, (same c).2]
    exact host_rowCol (φ := .f32) (ψ := .f32) _ _⟩

theorem frame_kernel3 : Cert.quiescent_Kernel3 := fun m ρ _ => Cert.Kernel3.Gen.frame m ρ
theorem frame_ideal3 : Cert.quiescent_Kernel3Ideal := fun m ρ _ => Cert.Kernel3Ideal.Gen.frame m ρ
theorem frame_reference3 : Cert.quiescent_Reference3Ideal := fun m ρ _ => quiet (by decide) (Cert.Reference3Ideal.Value.run m ρ)
theorem value3 : Cert.algebraic_Kernel3Ideal_Reference3Ideal := fun m ρ m' ρ' _ same =>
  ⟨_, renamed (Cert.Kernel3Ideal.Value.run_blocks m ρ) (Cert.Kernel3Ideal.Hand.product m), renamed (Cert.Reference3Ideal.Value.run m' ρ') fun c => by
    rw [(same c).1, (same c).2]
    exact host_rowRow (φ := .f32) (ψ := .f32) _ _⟩

theorem frame_kernel4 : Cert.quiescent_Kernel4 := fun m ρ _ => Cert.Kernel4.Gen.frame m ρ
theorem frame_ideal4 : Cert.quiescent_Kernel4Ideal := fun m ρ _ => Cert.Kernel4Ideal.Gen.frame m ρ
theorem frame_reference4 : Cert.quiescent_Reference4Ideal := fun m ρ _ => quiet (by decide) (Cert.Reference4Ideal.Value.run m ρ)
theorem value4 : Cert.algebraic_Kernel4Ideal_Reference4Ideal := fun m ρ m' ρ' _ same =>
  ⟨_, renamed (Cert.Kernel4Ideal.Value.run_blocks m ρ) (Cert.Kernel4Ideal.Hand.product m), renamed (Cert.Reference4Ideal.Value.run m' ρ') fun c => by
    rw [(same c).1, (same c).2]
    exact host_colCol (φ := .f32) (ψ := .f32) _ _ _ _⟩

end Cert.Proof

end
-- ==== Proof.Down.lean ====
module

public import proofs.«01_k».proof.Defs
public import proofs.«01_k».proof.Proof.Product
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run

/-! The feed-forward block's second product with the residual (program 5), the gradient of its input (6) and of its weight (7). -/

@[expose] public section

set_option maxRecDepth 16384

noncomputable section

open Idealize.ShloMosaic Idealize.ShloMosaic.TcCoe Idealize.SL.Sem Cert.Product

namespace Cert.Kernel5Ideal.Hand

open Cert.Kernel5Ideal.Gen

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)

variable (m : (ℓ : Loc nD τ sig) → Buf (Elt Ideal) ℓ) (c : Dev nD)

theorem product : (dats m 0 c).arrAt 3 cfg0.N
    = sum (rowCol (φ := .bf16) (ψ := .bf16) .f32 (m ((c.tc : Thread nD τ).loc main_arg0)) (m ((c.tc : Thread nD τ).loc main_arg1)))
      (m ((c.tc : Thread nD τ).loc main_arg2)) := by
  refine (dats m 0 c).arrAt_eq_of_covers 3 _ (by decide +kernel) fun t hf y => ?_
  blk_simp
  rw [after0_3]
  unfold out0_3
  rw [View.canon_unit_zero origin, View.ld_unit_zero origin, View.ld_unit_zero origin, View.ld_unit_zero origin]
  refine (congrFun (matmul_sum (φ := .bf16) (ψ := .bf16) _ _ _) y).trans (sum_of
    (rowCol_of (fun p => entry (V_main_arg0 m c) rfl ?_) (fun p => entry (V_main_arg1 m c) rfl ?_)) (entry (V_main_arg2 m c) rfl ?_))
  · blk_ext [index_0, index_3]
  · blk_ext [index_1, index_3]
  · blk_ext [index_2, index_3]

end Cert.Kernel5Ideal.Hand

namespace Cert.Kernel6Ideal.Hand

open Cert.Kernel6Ideal.Gen

theorem index_0 : ∀ t : Fin cfg0.N, win0_0.index t = ![t.val / 2, 0] := (by decide +kernel : ∀ t : Fin grid0.N, _)
theorem index_1 : ∀ t : Fin cfg0.N, win0_1.index t = ![t.val % 2, 0] := (by decide +kernel : ∀ t : Fin grid0.N, _)
theorem index_2 : ∀ t : Fin cfg0.N, win0_2.index t = ![t.val / 2, t.val % 2] := (by decide +kernel : ∀ t : Fin grid0.N, _)

variable (m : (ℓ : Loc nD τ sig) → Buf (Elt Ideal) ℓ) (c : Dev nD)

theorem product : (dats m 0 c).arrAt 2 cfg0.N
    = rowRow (φ := .f32) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_rowRow (φ := .bf16) (ψ := .bf16) _ _) y).trans
    (rowRow_of (fun p => entry (V_main_arg0 m c) rfl ?_) (fun p => entry (V_main_arg1 m c) rfl ?_))
  · blk_ext [index_0, index_2]
  · blk_ext [index_1, index_2]

end Cert.Kernel6Ideal.Hand

namespace Cert.Kernel7Ideal.Hand

open Cert.Kernel7Ideal.Gen

theorem index_0 : ∀ t : Fin cfg0.N, win0_0.index t = ![0, t.val] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem product : (dats m 0 c).arrAt 2 cfg0.N
    = colCol (φ := .bf16) (ψ := .f32) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_colCol (φ := .bf16) (ψ := .bf16) _ _ _) y).trans
    (colCol_of (fun p => entry (V_main_arg0 m c) rfl ?_) (fun p => entry (V_main_arg1 m c) rfl ?_))
  · blk_ext [index_0, index_2]
  · blk_ext [index_1, index_2]

end Cert.Kernel7Ideal.Hand

namespace Cert.Proof

attribute [local instance] Cert.Kernel5.Gen.facts Cert.Kernel5Ideal.Gen.facts Cert.Reference5Ideal.Gen.facts
  Cert.Kernel6.Gen.facts Cert.Kernel6Ideal.Gen.facts Cert.Reference6Ideal.Gen.facts
  Cert.Kernel7.Gen.facts Cert.Kernel7Ideal.Gen.facts Cert.Reference7Ideal.Gen.facts

theorem frame_kernel5 : Cert.quiescent_Kernel5 := fun m ρ _ => Cert.Kernel5.Gen.frame m ρ
theorem frame_ideal5 : Cert.quiescent_Kernel5Ideal := fun m ρ _ => Cert.Kernel5Ideal.Gen.frame m ρ
theorem frame_reference5 : Cert.quiescent_Reference5Ideal := fun m ρ _ => quiet (by decide) (Cert.Reference5Ideal.Value.run m ρ)
theorem value5 : Cert.algebraic_Kernel5Ideal_Reference5Ideal := fun m ρ m' ρ' _ same =>
  ⟨_, renamed (Cert.Kernel5Ideal.Value.run_blocks m ρ) (Cert.Kernel5Ideal.Hand.product m), renamed (Cert.Reference5Ideal.Value.run m' ρ') fun c => by
    rw [(same c).1, (same c).2.1, (same c).2.2]
    exact host_sum (φ := .f32) (ψ := .f32) _ _ _⟩

theorem frame_kernel6 : Cert.quiescent_Kernel6 := fun m ρ _ => Cert.Kernel6.Gen.frame m ρ
theorem frame_ideal6 : Cert.quiescent_Kernel6Ideal := fun m ρ _ => Cert.Kernel6Ideal.Gen.frame m ρ
theorem frame_reference6 : Cert.quiescent_Reference6Ideal := fun m ρ _ => quiet (by decide) (Cert.Reference6Ideal.Value.run m ρ)
theorem value6 : Cert.algebraic_Kernel6Ideal_Reference6Ideal := fun m ρ m' ρ' _ same =>
  ⟨_, renamed (Cert.Kernel6Ideal.Value.run_blocks m ρ) (Cert.Kernel6Ideal.Hand.product m), renamed (Cert.Reference6Ideal.Value.run m' ρ') fun c => by
    rw [(same c).1, (same c).2]
    exact host_rowRow (φ := .f32) (ψ := .f32) _ _⟩

theorem frame_kernel7 : Cert.quiescent_Kernel7 := fun m ρ _ => Cert.Kernel7.Gen.frame m ρ
theorem frame_ideal7 : Cert.quiescent_Kernel7Ideal := fun m ρ _ => Cert.Kernel7Ideal.Gen.frame m ρ
theorem frame_reference7 : Cert.quiescent_Reference7Ideal := fun m ρ _ => quiet (by decide) (Cert.Reference7Ideal.Value.run m ρ)
theorem value7 : Cert.algebraic_Kernel7Ideal_Reference7Ideal := fun m ρ m' ρ' _ same =>
  ⟨_, renamed (Cert.Kernel7Ideal.Value.run_blocks m ρ) (Cert.Kernel7Ideal.Hand.product m), renamed (Cert.Reference7Ideal.Value.run m' ρ') fun c => by
    rw [(same c).1, (same c).2]
    exact host_colCol (φ := .f32) (ψ := .f32) _ _ _ _⟩

end Cert.Proof

end
-- ==== Proof.Gates.lean ====
module

public import proofs.«01_k».proof.Defs
public import proofs.«01_k».proof.Proof.Product
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run

/-! The product that makes the branches' gates (program 8), the gradient of its input (9) and of its weight (10). -/

@[expose] public section

set_option maxRecDepth 16384

noncomputable section

open Idealize.ShloMosaic Idealize.ShloMosaic.TcCoe Idealize.SL.Sem Cert.Product

namespace Cert.Kernel8Ideal.Hand

open Cert.Kernel8Ideal.Gen

theorem index_0 : ∀ t : Fin cfg0.N, win0_0.index t = ![t.val / 2, 0] := (by decide +kernel : ∀ t : Fin grid0.N, _)
theorem index_1 : ∀ t : Fin cfg0.N, win0_1.index t = ![0, t.val % 2] := (by decide +kernel : ∀ t : Fin grid0.N, _)
theorem index_2 : ∀ t : Fin cfg0.N, win0_2.index t = ![t.val / 2, t.val % 2] := (by decide +kernel : ∀ t : Fin grid0.N, _)

variable (m : (ℓ : Loc nD τ sig) → Buf (Elt Ideal) ℓ) (c : Dev nD)

theorem product : (dats m 0 c).arrAt 2 cfg0.N
    = rowCol (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_rowCol (φ := .bf16) (ψ := .bf16) _ _) y).trans
    (rowCol_of (fun p => entry (V_main_arg0 m c) rfl ?_) (fun p => entry (V_main_arg1 m c) rfl ?_))
  · blk_ext [index_0, index_2]
  · blk_ext [index_1, index_2]

end Cert.Kernel8Ideal.Hand

namespace Cert.Kernel9Ideal.Hand

open Cert.Kernel9Ideal.Gen

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem product : (dats m 0 c).arrAt 2 cfg0.N
    = rowRow (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_rowRow (φ := .bf16) (ψ := .bf16) _ _) y).trans
    (rowRow_of (fun p => entry (V_main_arg0 m c) rfl ?_) (fun p => entry (V_main_arg1 m c) rfl ?_))
  · blk_ext [index_0, index_2]
  · blk_ext [index_1, index_2]

end Cert.Kernel9Ideal.Hand

namespace Cert.Kernel10Ideal.Hand

open Cert.Kernel10Ideal.Gen

theorem index_0 : ∀ t : Fin cfg0.N, win0_0.index t = ![0, 0] := (by decide +kernel : ∀ t : Fin grid0.N, _)
theorem index_1 : ∀ t : Fin cfg0.N, win0_1.index t = ![0, t.val] := (by decide +kernel : ∀ t : Fin grid0.N, _)
theorem index_2 : ∀ t : Fin cfg0.N, win0_2.index t = ![0, t.val] := (by decide +kernel : ∀ t : Fin grid0.N, _)

variable (m : (ℓ : Loc nD τ sig) → Buf (Elt Ideal) ℓ) (c : Dev nD)

theorem first_block (t : Fin cfg0.N) : iblk m c 0 t = (m ((c.tc : Thread nD τ).loc main_arg0) : FVec Ideal S4096x1024 .bf16) :=
  funext fun y => entry (V_main_arg0 m c) rfl (by blk_ext [index_0])

/-- Each point's tile, and the transposed factor that it leaves in the scratch. -/
theorem points (n : ℕ) (h : n < cfg0.N) : outsAt0 m c n h
    = (k0_pay2 (k0_pay1 (m ((c.tc : Thread nD τ).loc main_arg0))) (iblk m c 1 ⟨n, h⟩), k0_pay1 (F := Ideal) (m ((c.tc : Thread nD τ).loc main_arg0))) :=
  carried (outsAt0 m c) (fun t s => k0_pay2 s (iblk m c 1 t)) _
    (fun t h => by
      rw [outsAt0_A m c t h, ← first_block m c t]
      unfold out0_A_2 sout0_A_0 kernelRun0_A
      dsimp only
      sl_unfold_words
      rw [stored_at (S := S1024x512) origin, stored_at (S := S1024x4096) origin, loaded_at (S := S4096x1024) origin, loaded_at (S := S4096x512) origin,
        View.readCov_unit_zero (S := S1024x4096) _ origin])
    (fun t h => by
      rw [outsAt0_B m c t h]
      unfold out0_B_2 sout0_B_0 kernelRun0_B
      dsimp only
      rw [stored_at (S := S1024x512) origin, loaded_at (S := S4096x512) origin]
      exact congrArg (fun s => (k0_pay2 s _, _)) (loaded_at (S := S1024x4096) origin scM0_0 (Memref.isWhole_whole _) _ _)) n h

theorem product : (dats m 0 c).arrAt 2 cfg0.N
    = colCol (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2, points]
  refine (congrFun (cached_colCol (φ := .bf16) (ψ := .bf16) _ _ _ _) y).trans
    (colCol_of (fun p => congrArg (m ((c.tc : Thread nD τ).loc main_arg0)) ?_) (fun p => entry (V_main_arg1 m c) rfl ?_))
  · blk_ext [index_2]
  · blk_ext [index_1, index_2]

end Cert.Kernel10Ideal.Hand

namespace Cert.Proof

attribute [local instance] Cert.Kernel8.Gen.facts Cert.Kernel8Ideal.Gen.facts Cert.Reference8Ideal.Gen.facts
  Cert.Kernel9.Gen.facts Cert.Kernel9Ideal.Gen.facts Cert.Reference9Ideal.Gen.facts
  Cert.Kernel10.Gen.facts Cert.Kernel10Ideal.Gen.facts Cert.Reference10Ideal.Gen.facts

theorem frame_kernel8 : Cert.quiescent_Kernel8 := fun m ρ _ => Cert.Kernel8.Gen.frame m ρ
theorem frame_ideal8 : Cert.quiescent_Kernel8Ideal := fun m ρ _ => Cert.Kernel8Ideal.Gen.frame m ρ
theorem frame_reference8 : Cert.quiescent_Reference8Ideal := fun m ρ _ => quiet (by decide) (Cert.Reference8Ideal.Value.run m ρ)
theorem value8 : Cert.algebraic_Kernel8Ideal_Reference8Ideal := fun m ρ m' ρ' _ same =>
  ⟨_, renamed (Cert.Kernel8Ideal.Value.run_blocks m ρ) (Cert.Kernel8Ideal.Hand.product m), renamed (Cert.Reference8Ideal.Value.run m' ρ') fun c => by
    rw [(same c).1, (same c).2]
    exact host_rowCol (φ := .f32) (ψ := .f32) _ _⟩

theorem frame_kernel9 : Cert.quiescent_Kernel9 := fun m ρ _ => Cert.Kernel9.Gen.frame m ρ
theorem frame_ideal9 : Cert.quiescent_Kernel9Ideal := fun m ρ _ => Cert.Kernel9Ideal.Gen.frame m ρ
theorem frame_reference9 : Cert.quiescent_Reference9Ideal := fun m ρ _ => quiet (by decide) (Cert.Reference9Ideal.Value.run m ρ)
theorem value9 : Cert.algebraic_Kernel9Ideal_Reference9Ideal := fun m ρ m' ρ' _ same =>
  ⟨_, renamed (Cert.Kernel9Ideal.Value.run_blocks m ρ) (Cert.Kernel9Ideal.Hand.product m), renamed (Cert.Reference9Ideal.Value.run m' ρ') fun c => by
    rw [(same c).1, (same c).2]
    exact host_rowRow (φ := .f32) (ψ := .f32) _ _⟩

theorem frame_kernel10 : Cert.quiescent_Kernel10 := fun m ρ _ => Cert.Kernel10.Gen.frame m ρ
theorem frame_ideal10 : Cert.quiescent_Kernel10Ideal := fun m ρ _ => Cert.Kernel10Ideal.Gen.frame m ρ
theorem frame_reference10 : Cert.quiescent_Reference10Ideal := fun m ρ _ => quiet (by decide) (Cert.Reference10Ideal.Value.run m ρ)
theorem value10 : Cert.algebraic_Kernel10Ideal_Reference10Ideal := fun m ρ m' ρ' _ same =>
  ⟨_, renamed (Cert.Kernel10Ideal.Value.run_blocks m ρ) (Cert.Kernel10Ideal.Hand.product m), renamed (Cert.Reference10Ideal.Value.run m' ρ') fun c => by
    rw [(same c).1, (same c).2]
    exact host_colCol (φ := .f32) (ψ := .f32) _ _ _ _⟩

end Cert.Proof

end
-- ==== Proof.Recurrence.lean ====
module

public import proofs.«01_k».proof.Defs
public import proofs.«01_k».proof.Proof.Product
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run

/-! The projection of the gated recurrence (program 11), the gradient of its input (12) and of its weight (13). -/

@[expose] public section

set_option maxRecDepth 16384

noncomputable section

open Idealize.ShloMosaic Idealize.ShloMosaic.TcCoe Idealize.SL.Sem Cert.Product

namespace Cert.Kernel11Ideal.Hand

open Cert.Kernel11Ideal.Gen

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem product : (dats m 0 c).arrAt 2 cfg0.N
    = rowCol (φ := .bf16) (ψ := .bf16) .f32 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_rowCol (φ := .bf16) (ψ := .bf16) _ _) y).trans
    (rowCol_of (fun p => entry (V_main_arg0 m c) rfl ?_) (fun p => entry (V_main_arg1 m c) rfl ?_))
  · blk_ext [index_0, index_2]
  · blk_ext [index_1, index_2]

end Cert.Kernel11Ideal.Hand

namespace Cert.Kernel12Ideal.Hand

open Cert.Kernel12Ideal.Gen

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem product : (dats m 0 c).arrAt 2 cfg0.N
    = rowRow (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_rowRow (φ := .bf16) (ψ := .bf16) _ _) y).trans
    (rowRow_of (fun p => entry (V_main_arg0 m c) rfl ?_) (fun p => entry (V_main_arg1 m c) rfl ?_))
  · blk_ext [index_0, index_2]
  · blk_ext [index_1, index_2]

end Cert.Kernel12Ideal.Hand

namespace Cert.Kernel13Ideal.Hand

open Cert.Kernel13Ideal.Gen

theorem index_0 : ∀ t : Fin cfg0.N, win0_0.index t = ![0, 0] := (by decide +kernel : ∀ t : Fin grid0.N, _)
theorem index_1 : ∀ t : Fin cfg0.N, win0_1.index t = ![0, t.val] := (by decide +kernel : ∀ t : Fin grid0.N, _)
theorem index_2 : ∀ t : Fin cfg0.N, win0_2.index t = ![0, t.val] := (by decide +kernel : ∀ t : Fin grid0.N, _)

variable (m : (ℓ : Loc nD τ sig) → Buf (Elt Ideal) ℓ) (c : Dev nD)

theorem first_block (t : Fin cfg0.N) : iblk m c 0 t = (m ((c.tc : Thread nD τ).loc main_arg0) : FVec Ideal S4096x1024 .bf16) :=
  funext fun y => entry (V_main_arg0 m c) rfl (by blk_ext [index_0])

/-- Each point's tile, and the transposed factor that it leaves in the scratch. -/
theorem points (n : ℕ) (h : n < cfg0.N) : outsAt0 m c n h
    = (k0_pay2 (k0_pay1 (m ((c.tc : Thread nD τ).loc main_arg0))) (iblk m c 1 ⟨n, h⟩), k0_pay1 (F := Ideal) (m ((c.tc : Thread nD τ).loc main_arg0))) :=
  carried (outsAt0 m c) (fun t s => k0_pay2 s (iblk m c 1 t)) _
    (fun t h => by
      rw [outsAt0_A m c t h, ← first_block m c t]
      unfold out0_A_2 sout0_A_0 kernelRun0_A
      dsimp only
      sl_unfold_words
      rw [stored_at (S := S1024x512) origin, stored_at (S := S1024x4096) origin, loaded_at (S := S4096x1024) origin, loaded_at (S := S4096x512) origin,
        View.readCov_unit_zero (S := S1024x4096) _ origin])
    (fun t h => by
      rw [outsAt0_B m c t h]
      unfold out0_B_2 sout0_B_0 kernelRun0_B
      dsimp only
      rw [stored_at (S := S1024x512) origin, loaded_at (S := S4096x512) origin]
      exact congrArg (fun s => (k0_pay2 s _, _)) (loaded_at (S := S1024x4096) origin scM0_0 (Memref.isWhole_whole _) _ _)) n h

theorem product : (dats m 0 c).arrAt 2 cfg0.N
    = colCol (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2, points]
  refine (congrFun (cached_colCol (φ := .bf16) (ψ := .bf16) _ _ _ _) y).trans
    (colCol_of (fun p => congrArg (m ((c.tc : Thread nD τ).loc main_arg0)) ?_) (fun p => entry (V_main_arg1 m c) rfl ?_))
  · blk_ext [index_2]
  · blk_ext [index_1, index_2]

end Cert.Kernel13Ideal.Hand

namespace Cert.Proof

attribute [local instance] Cert.Kernel11.Gen.facts Cert.Kernel11Ideal.Gen.facts Cert.Reference11Ideal.Gen.facts
  Cert.Kernel12.Gen.facts Cert.Kernel12Ideal.Gen.facts Cert.Reference12Ideal.Gen.facts
  Cert.Kernel13.Gen.facts Cert.Kernel13Ideal.Gen.facts Cert.Reference13Ideal.Gen.facts

theorem frame_kernel11 : Cert.quiescent_Kernel11 := fun m ρ _ => Cert.Kernel11.Gen.frame m ρ
theorem frame_ideal11 : Cert.quiescent_Kernel11Ideal := fun m ρ _ => Cert.Kernel11Ideal.Gen.frame m ρ
theorem frame_reference11 : Cert.quiescent_Reference11Ideal := fun m ρ _ => quiet (by decide) (Cert.Reference11Ideal.Value.run m ρ)
theorem value11 : Cert.algebraic_Kernel11Ideal_Reference11Ideal := fun m ρ m' ρ' _ same =>
  ⟨_, renamed (Cert.Kernel11Ideal.Value.run_blocks m ρ) (Cert.Kernel11Ideal.Hand.product m), renamed (Cert.Reference11Ideal.Value.run m' ρ') fun c => by
    rw [(same c).1, (same c).2]
    exact host_rowCol (φ := .f32) (ψ := .f32) _ _⟩

theorem frame_kernel12 : Cert.quiescent_Kernel12 := fun m ρ _ => Cert.Kernel12.Gen.frame m ρ
theorem frame_ideal12 : Cert.quiescent_Kernel12Ideal := fun m ρ _ => Cert.Kernel12Ideal.Gen.frame m ρ
theorem frame_reference12 : Cert.quiescent_Reference12Ideal := fun m ρ _ => quiet (by decide) (Cert.Reference12Ideal.Value.run m ρ)
theorem value12 : Cert.algebraic_Kernel12Ideal_Reference12Ideal := fun m ρ m' ρ' _ same =>
  ⟨_, renamed (Cert.Kernel12Ideal.Value.run_blocks m ρ) (Cert.Kernel12Ideal.Hand.product m), renamed (Cert.Reference12Ideal.Value.run m' ρ') fun c => by
    rw [(same c).1, (same c).2]
    exact host_rowRow (φ := .f32) (ψ := .f32) _ _⟩

theorem frame_kernel13 : Cert.quiescent_Kernel13 := fun m ρ _ => Cert.Kernel13.Gen.frame m ρ
theorem frame_ideal13 : Cert.quiescent_Kernel13Ideal := fun m ρ _ => Cert.Kernel13Ideal.Gen.frame m ρ
theorem frame_reference13 : Cert.quiescent_Reference13Ideal := fun m ρ _ => quiet (by decide) (Cert.Reference13Ideal.Value.run m ρ)
theorem value13 : Cert.algebraic_Kernel13Ideal_Reference13Ideal := fun m ρ m' ρ' _ same =>
  ⟨_, renamed (Cert.Kernel13Ideal.Value.run_blocks m ρ) (Cert.Kernel13Ideal.Hand.product m), renamed (Cert.Reference13Ideal.Value.run m' ρ') fun c => by
    rw [(same c).1, (same c).2]
    exact host_colCol (φ := .f32) (ψ := .f32) _ _ _ _⟩

end Cert.Proof

end
-- ==== Proof.Latent.lean ====
module

public import proofs.«01_k».proof.Defs
public import proofs.«01_k».proof.Proof.Product
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run

/-! The latent projection (program 14), the gradient of its input (15) and of its weight (16). -/

@[expose] public section

set_option maxRecDepth 16384

noncomputable section

open Idealize.ShloMosaic Idealize.ShloMosaic.TcCoe Idealize.SL.Sem Cert.Product

namespace Cert.Kernel14Ideal.Hand

open Cert.Kernel14Ideal.Gen

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem product : (dats m 0 c).arrAt 2 cfg0.N
    = rowCol (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_rowCol (φ := .bf16) (ψ := .bf16) _ _) y).trans
    (rowCol_of (fun p => entry (V_main_arg0 m c) rfl ?_) (fun p => entry (V_main_arg1 m c) rfl ?_))
  · blk_ext [index_0, index_2]
  · blk_ext [index_1, index_2]

end Cert.Kernel14Ideal.Hand

namespace Cert.Kernel15Ideal.Hand

open Cert.Kernel15Ideal.Gen

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem product : (dats m 0 c).arrAt 2 cfg0.N
    = rowRow (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_rowRow (φ := .bf16) (ψ := .bf16) _ _) y).trans
    (rowRow_of (fun p => entry (V_main_arg0 m c) rfl ?_) (fun p => entry (V_main_arg1 m c) rfl ?_))
  · blk_ext [index_0, index_2]
  · blk_ext [index_1, index_2]

end Cert.Kernel15Ideal.Hand

namespace Cert.Kernel16Ideal.Hand

open Cert.Kernel16Ideal.Gen

theorem index_0 : ∀ t : Fin cfg0.N, win0_0.index t = ![0, 0] := (by decide +kernel : ∀ t : Fin grid0.N, _)
theorem index_1 : ∀ t : Fin cfg0.N, win0_1.index t = ![0, t.val] := (by decide +kernel : ∀ t : Fin grid0.N, _)
theorem index_2 : ∀ t : Fin cfg0.N, win0_2.index t = ![0, t.val] := (by decide +kernel : ∀ t : Fin grid0.N, _)

variable (m : (ℓ : Loc nD τ sig) → Buf (Elt Ideal) ℓ) (c : Dev nD)

theorem first_block (t : Fin cfg0.N) : iblk m c 0 t = (m ((c.tc : Thread nD τ).loc main_arg0) : FVec Ideal S4096x1024 .bf16) :=
  funext fun y => entry (V_main_arg0 m c) rfl (by blk_ext [index_0])

/-- Each point's tile, and the transposed factor that it leaves in the scratch. -/
theorem points (n : ℕ) (h : n < cfg0.N) : outsAt0 m c n h
    = (k0_pay2 (k0_pay1 (m ((c.tc : Thread nD τ).loc main_arg0))) (iblk m c 1 ⟨n, h⟩), k0_pay1 (F := Ideal) (m ((c.tc : Thread nD τ).loc main_arg0))) :=
  carried (outsAt0 m c) (fun t s => k0_pay2 s (iblk m c 1 t)) _
    (fun t h => by
      rw [outsAt0_A m c t h, ← first_block m c t]
      unfold out0_A_2 sout0_A_0 kernelRun0_A
      dsimp only
      sl_unfold_words
      rw [stored_at (S := S1024x512) origin, stored_at (S := S1024x4096) origin, loaded_at (S := S4096x1024) origin, loaded_at (S := S4096x512) origin,
        View.readCov_unit_zero (S := S1024x4096) _ origin])
    (fun t h => by
      rw [outsAt0_B m c t h]
      unfold out0_B_2 sout0_B_0 kernelRun0_B
      dsimp only
      rw [stored_at (S := S1024x512) origin, loaded_at (S := S4096x512) origin]
      exact congrArg (fun s => (k0_pay2 s _, _)) (loaded_at (S := S1024x4096) origin scM0_0 (Memref.isWhole_whole _) _ _)) n h

theorem product : (dats m 0 c).arrAt 2 cfg0.N
    = colCol (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2, points]
  refine (congrFun (cached_colCol (φ := .bf16) (ψ := .bf16) _ _ _ _) y).trans
    (colCol_of (fun p => congrArg (m ((c.tc : Thread nD τ).loc main_arg0)) ?_) (fun p => entry (V_main_arg1 m c) rfl ?_))
  · blk_ext [index_2]
  · blk_ext [index_1, index_2]

end Cert.Kernel16Ideal.Hand

namespace Cert.Proof

attribute [local instance] Cert.Kernel14.Gen.facts Cert.Kernel14Ideal.Gen.facts Cert.Reference14Ideal.Gen.facts
  Cert.Kernel15.Gen.facts Cert.Kernel15Ideal.Gen.facts Cert.Reference15Ideal.Gen.facts
  Cert.Kernel16.Gen.facts Cert.Kernel16Ideal.Gen.facts Cert.Reference16Ideal.Gen.facts

theorem frame_kernel14 : Cert.quiescent_Kernel14 := fun m ρ _ => Cert.Kernel14.Gen.frame m ρ
theorem frame_ideal14 : Cert.quiescent_Kernel14Ideal := fun m ρ _ => Cert.Kernel14Ideal.Gen.frame m ρ
theorem frame_reference14 : Cert.quiescent_Reference14Ideal := fun m ρ _ => quiet (by decide) (Cert.Reference14Ideal.Value.run m ρ)
theorem value14 : Cert.algebraic_Kernel14Ideal_Reference14Ideal := fun m ρ m' ρ' _ same =>
  ⟨_, renamed (Cert.Kernel14Ideal.Value.run_blocks m ρ) (Cert.Kernel14Ideal.Hand.product m), renamed (Cert.Reference14Ideal.Value.run m' ρ') fun c => by
    rw [(same c).1, (same c).2]
    exact host_rowCol (φ := .f32) (ψ := .f32) _ _⟩

theorem frame_kernel15 : Cert.quiescent_Kernel15 := fun m ρ _ => Cert.Kernel15.Gen.frame m ρ
theorem frame_ideal15 : Cert.quiescent_Kernel15Ideal := fun m ρ _ => Cert.Kernel15Ideal.Gen.frame m ρ
theorem frame_reference15 : Cert.quiescent_Reference15Ideal := fun m ρ _ => quiet (by decide) (Cert.Reference15Ideal.Value.run m ρ)
theorem value15 : Cert.algebraic_Kernel15Ideal_Reference15Ideal := fun m ρ m' ρ' _ same =>
  ⟨_, renamed (Cert.Kernel15Ideal.Value.run_blocks m ρ) (Cert.Kernel15Ideal.Hand.product m), renamed (Cert.Reference15Ideal.Value.run m' ρ') fun c => by
    rw [(same c).1, (same c).2]
    exact host_rowRow (φ := .f32) (ψ := .f32) _ _⟩

theorem frame_kernel16 : Cert.quiescent_Kernel16 := fun m ρ _ => Cert.Kernel16.Gen.frame m ρ
theorem frame_ideal16 : Cert.quiescent_Kernel16Ideal := fun m ρ _ => Cert.Kernel16Ideal.Gen.frame m ρ
theorem frame_reference16 : Cert.quiescent_Reference16Ideal := fun m ρ _ => quiet (by decide) (Cert.Reference16Ideal.Value.run m ρ)
theorem value16 : Cert.algebraic_Kernel16Ideal_Reference16Ideal := fun m ρ m' ρ' _ same =>
  ⟨_, renamed (Cert.Kernel16Ideal.Value.run_blocks m ρ) (Cert.Kernel16Ideal.Hand.product m), renamed (Cert.Reference16Ideal.Value.run m' ρ') fun c => by
    rw [(same c).1, (same c).2]
    exact host_colCol (φ := .f32) (ψ := .f32) _ _ _ _⟩

end Cert.Proof

end
-- ==== Proof.StateSpace.lean ====
module

public import proofs.«01_k».proof.Defs
public import proofs.«01_k».proof.Proof.Product
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run

/-! The product of the state-space branch's gated unit (program 17), the gradient of its input (18) and of its weight (19). -/

@[expose] public section

set_option maxRecDepth 16384

noncomputable section

open Idealize.ShloMosaic Idealize.ShloMosaic.TcCoe Idealize.SL.Sem Cert.Product

namespace Cert.Kernel17Ideal.Hand

open Cert.Kernel17Ideal.Gen

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem product : (dats m 0 c).arrAt 2 cfg0.N
    = rowCol (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_rowCol (φ := .bf16) (ψ := .bf16) _ _) y).trans
    (rowCol_of (fun p => entry (V_main_arg0 m c) rfl ?_) (fun p => entry (V_main_arg1 m c) rfl ?_))
  · blk_ext [index_0, index_2]
  · blk_ext [index_1, index_2]

end Cert.Kernel17Ideal.Hand

namespace Cert.Kernel18Ideal.Hand

open Cert.Kernel18Ideal.Gen

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem product : (dats m 0 c).arrAt 2 cfg0.N
    = rowRow (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_rowRow (φ := .bf16) (ψ := .bf16) _ _) y).trans
    (rowRow_of (fun p => entry (V_main_arg0 m c) rfl ?_) (fun p => entry (V_main_arg1 m c) rfl ?_))
  · blk_ext [index_0, index_2]
  · blk_ext [index_1, index_2]

end Cert.Kernel18Ideal.Hand

namespace Cert.Kernel19Ideal.Hand

open Cert.Kernel19Ideal.Gen

theorem index_0 : ∀ t : Fin cfg0.N, win0_0.index t = ![0, 0] := (by decide +kernel : ∀ t : Fin grid0.N, _)
theorem index_1 : ∀ t : Fin cfg0.N, win0_1.index t = ![0, t.val] := (by decide +kernel : ∀ t : Fin grid0.N, _)
theorem index_2 : ∀ t : Fin cfg0.N, win0_2.index t = ![0, t.val] := (by decide +kernel : ∀ t : Fin grid0.N, _)

variable (m : (ℓ : Loc nD τ sig) → Buf (Elt Ideal) ℓ) (c : Dev nD)

theorem first_block (t : Fin cfg0.N) : iblk m c 0 t = (m ((c.tc : Thread nD τ).loc main_arg0) : FVec Ideal S4096x512 .bf16) :=
  funext fun y => entry (V_main_arg0 m c) rfl (by blk_ext [index_0])

/-- Each point's tile, and the transposed factor that it leaves in the scratch. -/
theorem points (n : ℕ) (h : n < cfg0.N) : outsAt0 m c n h
    = (k0_pay2 (k0_pay1 (m ((c.tc : Thread nD τ).loc main_arg0))) (iblk m c 1 ⟨n, h⟩), k0_pay1 (F := Ideal) (m ((c.tc : Thread nD τ).loc main_arg0))) :=
  carried (outsAt0 m c) (fun t s => k0_pay2 s (iblk m c 1 t)) _
    (fun t h => by
      rw [outsAt0_A m c t h, ← first_block m c t]
      unfold out0_A_2 sout0_A_0 kernelRun0_A
      dsimp only
      sl_unfold_words
      rw [stored_at (S := S512x1024) origin, stored_at (S := S512x4096) origin, loaded_at (S := S4096x512) origin, loaded_at (S := S4096x1024) origin,
        View.readCov_unit_zero (S := S512x4096) _ origin])
    (fun t h => by
      rw [outsAt0_B m c t h]
      unfold out0_B_2 sout0_B_0 kernelRun0_B
      dsimp only
      rw [stored_at (S := S512x1024) origin, loaded_at (S := S4096x1024) origin]
      exact congrArg (fun s => (k0_pay2 s _, _)) (loaded_at (S := S512x4096) origin scM0_0 (Memref.isWhole_whole _) _ _)) n h

theorem product : (dats m 0 c).arrAt 2 cfg0.N
    = colCol (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2, points]
  refine (congrFun (cached_colCol (φ := .bf16) (ψ := .bf16) _ _ _ _) y).trans
    (colCol_of (fun p => congrArg (m ((c.tc : Thread nD τ).loc main_arg0)) ?_) (fun p => entry (V_main_arg1 m c) rfl ?_))
  · blk_ext [index_2]
  · blk_ext [index_1, index_2]

end Cert.Kernel19Ideal.Hand

namespace Cert.Proof

attribute [local instance] Cert.Kernel17.Gen.facts Cert.Kernel17Ideal.Gen.facts Cert.Reference17Ideal.Gen.facts
  Cert.Kernel18.Gen.facts Cert.Kernel18Ideal.Gen.facts Cert.Reference18Ideal.Gen.facts
  Cert.Kernel19.Gen.facts Cert.Kernel19Ideal.Gen.facts Cert.Reference19Ideal.Gen.facts

theorem frame_kernel17 : Cert.quiescent_Kernel17 := fun m ρ _ => Cert.Kernel17.Gen.frame m ρ
theorem frame_ideal17 : Cert.quiescent_Kernel17Ideal := fun m ρ _ => Cert.Kernel17Ideal.Gen.frame m ρ
theorem frame_reference17 : Cert.quiescent_Reference17Ideal := fun m ρ _ => quiet (by decide) (Cert.Reference17Ideal.Value.run m ρ)
theorem value17 : Cert.algebraic_Kernel17Ideal_Reference17Ideal := fun m ρ m' ρ' _ same =>
  ⟨_, renamed (Cert.Kernel17Ideal.Value.run_blocks m ρ) (Cert.Kernel17Ideal.Hand.product m), renamed (Cert.Reference17Ideal.Value.run m' ρ') fun c => by
    rw [(same c).1, (same c).2]
    exact host_rowCol (φ := .f32) (ψ := .f32) _ _⟩

theorem frame_kernel18 : Cert.quiescent_Kernel18 := fun m ρ _ => Cert.Kernel18.Gen.frame m ρ
theorem frame_ideal18 : Cert.quiescent_Kernel18Ideal := fun m ρ _ => Cert.Kernel18Ideal.Gen.frame m ρ
theorem frame_reference18 : Cert.quiescent_Reference18Ideal := fun m ρ _ => quiet (by decide) (Cert.Reference18Ideal.Value.run m ρ)
theorem value18 : Cert.algebraic_Kernel18Ideal_Reference18Ideal := fun m ρ m' ρ' _ same =>
  ⟨_, renamed (Cert.Kernel18Ideal.Value.run_blocks m ρ) (Cert.Kernel18Ideal.Hand.product m), renamed (Cert.Reference18Ideal.Value.run m' ρ') fun c => by
    rw [(same c).1, (same c).2]
    exact host_rowRow (φ := .f32) (ψ := .f32) _ _⟩

theorem frame_kernel19 : Cert.quiescent_Kernel19 := fun m ρ _ => Cert.Kernel19.Gen.frame m ρ
theorem frame_ideal19 : Cert.quiescent_Kernel19Ideal := fun m ρ _ => Cert.Kernel19Ideal.Gen.frame m ρ
theorem frame_reference19 : Cert.quiescent_Reference19Ideal := fun m ρ _ => quiet (by decide) (Cert.Reference19Ideal.Value.run m ρ)
theorem value19 : Cert.algebraic_Kernel19Ideal_Reference19Ideal := fun m ρ m' ρ' _ same =>
  ⟨_, renamed (Cert.Kernel19Ideal.Value.run_blocks m ρ) (Cert.Kernel19Ideal.Hand.product m), renamed (Cert.Reference19Ideal.Value.run m' ρ') fun c => by
    rw [(same c).1, (same c).2]
    exact host_colCol (φ := .f32) (ψ := .f32) _ _ _ _⟩

end Cert.Proof

end
-- ==== Proof.Output.lean ====
module

public import proofs.«01_k».proof.Defs
public import proofs.«01_k».proof.Proof.Product
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Value
public import proofs.«01_k».proof.Proof.Gen.Reference22Ideal.Run

/-! The output projection with the residual (program 20), the gradient of its input (21) and of its weight (22). -/

@[expose] public section

set_option maxRecDepth 16384

noncomputable section

open Idealize.ShloMosaic Idealize.ShloMosaic.TcCoe Idealize.SL.Sem Cert.Product

namespace Cert.Kernel20Ideal.Hand

open Cert.Kernel20Ideal.Gen

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)

variable (m : (ℓ : Loc nD τ sig) → Buf (Elt Ideal) ℓ) (c : Dev nD)

theorem product : (dats m 0 c).arrAt 3 cfg0.N
    = sum (rowCol (φ := .bf16) (ψ := .bf16) .f32 (m ((c.tc : Thread nD τ).loc main_arg0)) (m ((c.tc : Thread nD τ).loc main_arg1)))
      (m ((c.tc : Thread nD τ).loc main_arg2)) := by
  refine (dats m 0 c).arrAt_eq_of_covers 3 _ (by decide +kernel) fun t hf y => ?_
  blk_simp
  rw [after0_3]
  unfold out0_3
  rw [View.canon_unit_zero origin, View.ld_unit_zero origin, View.ld_unit_zero origin, View.ld_unit_zero origin]
  refine (congrFun (matmul_sum (φ := .bf16) (ψ := .bf16) _ _ _) y).trans (sum_of
    (rowCol_of (fun p => entry (V_main_arg0 m c) rfl ?_) (fun p => entry (V_main_arg1 m c) rfl ?_)) (entry (V_main_arg2 m c) rfl ?_))
  · blk_ext [index_0, index_3]
  · blk_ext [index_1, index_3]
  · blk_ext [index_2, index_3]

end Cert.Kernel20Ideal.Hand

namespace Cert.Kernel21Ideal.Hand

open Cert.Kernel21Ideal.Gen

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem product : (dats m 0 c).arrAt 2 cfg0.N
    = rowRow (φ := .f32) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_rowRow (φ := .bf16) (ψ := .bf16) _ _) y).trans
    (rowRow_of (fun p => entry (V_main_arg0 m c) rfl ?_) (fun p => entry (V_main_arg1 m c) rfl ?_))
  · blk_ext [index_0, index_2]
  · blk_ext [index_1, index_2]

end Cert.Kernel21Ideal.Hand

namespace Cert.Kernel22Ideal.Hand

open Cert.Kernel22Ideal.Gen

theorem index_0 : ∀ t : Fin cfg0.N, win0_0.index t = ![0, 0] := (by decide +kernel : ∀ t : Fin grid0.N, _)
theorem index_1 : ∀ t : Fin cfg0.N, win0_1.index t = ![0, t.val] := (by decide +kernel : ∀ t : Fin grid0.N, _)
theorem index_2 : ∀ t : Fin cfg0.N, win0_2.index t = ![0, t.val] := (by decide +kernel : ∀ t : Fin grid0.N, _)

variable (m : (ℓ : Loc nD τ sig) → Buf (Elt Ideal) ℓ) (c : Dev nD)

theorem first_block (t : Fin cfg0.N) : iblk m c 0 t = (m ((c.tc : Thread nD τ).loc main_arg0) : FVec Ideal S4096x1024 .bf16) :=
  funext fun y => entry (V_main_arg0 m c) rfl (by blk_ext [index_0])

/-- Each point's tile, and the transposed factor that it leaves in the scratch. -/
theorem points (n : ℕ) (h : n < cfg0.N) : outsAt0 m c n h
    = (k0_pay2 (k0_pay1 (m ((c.tc : Thread nD τ).loc main_arg0))) (iblk m c 1 ⟨n, h⟩), k0_pay1 (F := Ideal) (m ((c.tc : Thread nD τ).loc main_arg0))) :=
  carried (outsAt0 m c) (fun t s => k0_pay2 s (iblk m c 1 t)) _
    (fun t h => by
      rw [outsAt0_A m c t h, ← first_block m c t]
      unfold out0_A_2 sout0_A_0 kernelRun0_A
      dsimp only
      sl_unfold_words
      rw [stored_at (S := S1024x256) origin, stored_at (S := S1024x4096) origin, loaded_at (S := S4096x1024) origin, loaded_at (S := S4096x256) origin,
        View.readCov_unit_zero (S := S1024x4096) _ origin])
    (fun t h => by
      rw [outsAt0_B m c t h]
      unfold out0_B_2 sout0_B_0 kernelRun0_B
      dsimp only
      rw [stored_at (S := S1024x256) origin, loaded_at (S := S4096x256) origin]
      exact congrArg (fun s => (k0_pay2 s _, _)) (loaded_at (S := S1024x4096) origin scM0_0 (Memref.isWhole_whole _) _ _)) n h

theorem product : (dats m 0 c).arrAt 2 cfg0.N
    = colCol (φ := .bf16) (ψ := .f32) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2, points]
  refine (congrFun (cached_colCol (φ := .bf16) (ψ := .bf16) _ _ _ _) y).trans
    (colCol_of (fun p => congrArg (m ((c.tc : Thread nD τ).loc main_arg0)) ?_) (fun p => entry (V_main_arg1 m c) rfl ?_))
  · blk_ext [index_2]
  · blk_ext [index_1, index_2]

end Cert.Kernel22Ideal.Hand

namespace Cert.Proof

attribute [local instance] Cert.Kernel20.Gen.facts Cert.Kernel20Ideal.Gen.facts Cert.Reference20Ideal.Gen.facts
  Cert.Kernel21.Gen.facts Cert.Kernel21Ideal.Gen.facts Cert.Reference21Ideal.Gen.facts
  Cert.Kernel22.Gen.facts Cert.Kernel22Ideal.Gen.facts Cert.Reference22Ideal.Gen.facts

theorem frame_kernel20 : Cert.quiescent_Kernel20 := fun m ρ _ => Cert.Kernel20.Gen.frame m ρ
theorem frame_ideal20 : Cert.quiescent_Kernel20Ideal := fun m ρ _ => Cert.Kernel20Ideal.Gen.frame m ρ
theorem frame_reference20 : Cert.quiescent_Reference20Ideal := fun m ρ _ => quiet (by decide) (Cert.Reference20Ideal.Value.run m ρ)
theorem value20 : Cert.algebraic_Kernel20Ideal_Reference20Ideal := fun m ρ m' ρ' _ same =>
  ⟨_, renamed (Cert.Kernel20Ideal.Value.run_blocks m ρ) (Cert.Kernel20Ideal.Hand.product m), renamed (Cert.Reference20Ideal.Value.run m' ρ') fun c => by
    rw [(same c).1, (same c).2.1, (same c).2.2]
    exact host_sum (φ := .f32) (ψ := .f32) _ _ _⟩

theorem frame_kernel21 : Cert.quiescent_Kernel21 := fun m ρ _ => Cert.Kernel21.Gen.frame m ρ
theorem frame_ideal21 : Cert.quiescent_Kernel21Ideal := fun m ρ _ => Cert.Kernel21Ideal.Gen.frame m ρ
theorem frame_reference21 : Cert.quiescent_Reference21Ideal := fun m ρ _ => quiet (by decide) (Cert.Reference21Ideal.Value.run m ρ)
theorem value21 : Cert.algebraic_Kernel21Ideal_Reference21Ideal := fun m ρ m' ρ' _ same =>
  ⟨_, renamed (Cert.Kernel21Ideal.Value.run_blocks m ρ) (Cert.Kernel21Ideal.Hand.product m), renamed (Cert.Reference21Ideal.Value.run m' ρ') fun c => by
    rw [(same c).1, (same c).2]
    exact host_rowRow (φ := .f32) (ψ := .f32) _ _⟩

theorem frame_kernel22 : Cert.quiescent_Kernel22 := fun m ρ _ => Cert.Kernel22.Gen.frame m ρ
theorem frame_ideal22 : Cert.quiescent_Kernel22Ideal := fun m ρ _ => Cert.Kernel22Ideal.Gen.frame m ρ
theorem frame_reference22 : Cert.quiescent_Reference22Ideal := fun m ρ _ => quiet (by decide) (Cert.Reference22Ideal.Value.run m ρ)
theorem value22 : Cert.algebraic_Kernel22Ideal_Reference22Ideal := fun m ρ m' ρ' _ same =>
  ⟨_, renamed (Cert.Kernel22Ideal.Value.run_blocks m ρ) (Cert.Kernel22Ideal.Hand.product m), renamed (Cert.Reference22Ideal.Value.run m' ρ') fun c => by
    rw [(same c).1, (same c).2]
    exact host_colCol (φ := .f32) (ψ := .f32) _ _ _ _⟩

end Cert.Proof

end
-- ==== Proof.FromLatent.lean ====
module

public import proofs.«01_k».proof.Defs
public import proofs.«01_k».proof.Proof.Product
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Kernel35.Frame
public import proofs.«01_k».proof.Proof.Gen.Kernel35Ideal.Value
public import proofs.«01_k».proof.Proof.Gen.Reference35Ideal.Run
public import proofs.«01_k».proof.Proof.Gen.Kernel36.Frame
public import proofs.«01_k».proof.Proof.Gen.Kernel36Ideal.Value
public import proofs.«01_k».proof.Proof.Gen.Reference36Ideal.Run
public import proofs.«01_k».proof.Proof.Gen.Kernel37.Frame
public import proofs.«01_k».proof.Proof.Gen.Kernel37Ideal.Value
public import proofs.«01_k».proof.Proof.Gen.Reference37Ideal.Run

/-! The product that makes q from its latent (program 23) with the gradients of its input (24) and of its weight (25),
and the one that makes k, or v, from their latent (35) with its two (36, 37). -/

@[expose] public section

set_option maxRecDepth 16384

noncomputable section

open Idealize.ShloMosaic Idealize.ShloMosaic.TcCoe Idealize.SL.Sem Cert.Product

namespace Cert.Kernel23Ideal.Hand

open Cert.Kernel23Ideal.Gen

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem product : (dats m 0 c).arrAt 2 cfg0.N
    = rowCol (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_rowCol (φ := .bf16) (ψ := .bf16) _ _) y).trans
    (rowCol_of (fun p => entry (V_main_arg0 m c) rfl ?_) (fun p => entry (V_main_arg1 m c) rfl ?_))
  · blk_ext [index_0, index_2]
  · blk_ext [index_1, index_2]

end Cert.Kernel23Ideal.Hand

namespace Cert.Kernel24Ideal.Hand

open Cert.Kernel24Ideal.Gen

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem product : (dats m 0 c).arrAt 2 cfg0.N
    = rowRow (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_rowRow (φ := .bf16) (ψ := .bf16) _ _) y).trans
    (rowRow_of (fun p => entry (V_main_arg0 m c) rfl ?_) (fun p => entry (V_main_arg1 m c) rfl ?_))
  · blk_ext [index_0, index_2]
  · blk_ext [index_1, index_2]

end Cert.Kernel24Ideal.Hand

namespace Cert.Kernel25Ideal.Hand

open Cert.Kernel25Ideal.Gen

theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)

variable (m : (ℓ : Loc nD τ sig) → Buf (Elt Ideal) ℓ) (c : Dev nD)

/-- The one point's tile, by way of the scratch. -/
theorem point (t : Fin cfg0.N) : outsAt0 m c t = k0_pay2 (k0_pay1 (iblk m c 0 t)) (iblk m c 1 t) := by
  unfold outsAt0 out0_A_2 kernelRun0_A
  dsimp only
  sl_unfold_words
  rw [stored_at (S := S512x1024) origin, loaded_at (S := S4096x512) origin, loaded_at (S := S4096x1024) origin,
    View.readCov_unit_zero (S := S512x4096) _ origin]

theorem product : (dats m 0 c).arrAt 2 cfg0.N
    = colCol (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2, point]
  refine (congrFun (cached_colCol (φ := .bf16) (ψ := .bf16) _ _ _ _) y).trans
    (colCol_of (fun p => entry (V_main_arg0 m c) rfl ?_) (fun p => entry (V_main_arg1 m c) rfl ?_))
  · blk_ext [index_0, index_2]
  · blk_ext [index_1, index_2]

end Cert.Kernel25Ideal.Hand

namespace Cert.Kernel35Ideal.Hand

open Cert.Kernel35Ideal.Gen

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem product : (dats m 0 c).arrAt 2 cfg0.N
    = rowCol (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_rowCol (φ := .bf16) (ψ := .bf16) _ _) y).trans
    (rowCol_of (fun p => entry (V_main_arg0 m c) rfl ?_) (fun p => entry (V_main_arg1 m c) rfl ?_))
  · blk_ext [index_0, index_2]
  · blk_ext [index_1, index_2]

end Cert.Kernel35Ideal.Hand

namespace Cert.Kernel36Ideal.Hand

open Cert.Kernel36Ideal.Gen

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem product : (dats m 0 c).arrAt 2 cfg0.N
    = rowRow (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_rowRow (φ := .bf16) (ψ := .bf16) _ _) y).trans
    (rowRow_of (fun p => entry (V_main_arg0 m c) rfl ?_) (fun p => entry (V_main_arg1 m c) rfl ?_))
  · blk_ext [index_0, index_2]
  · blk_ext [index_1, index_2]

end Cert.Kernel36Ideal.Hand

namespace Cert.Kernel37Ideal.Hand

open Cert.Kernel37Ideal.Gen

theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)

variable (m : (ℓ : Loc nD τ sig) → Buf (Elt Ideal) ℓ) (c : Dev nD)

/-- The one point's tile, by way of the scratch. -/
theorem point (t : Fin cfg0.N) : outsAt0 m c t = k0_pay2 (k0_pay1 (iblk m c 0 t)) (iblk m c 1 t) := by
  unfold outsAt0 out0_A_2 kernelRun0_A
  dsimp only
  sl_unfold_words
  rw [stored_at (S := S256x1024) origin, loaded_at (S := S4096x256) origin, loaded_at (S := S4096x1024) origin,
    View.readCov_unit_zero (S := S256x4096) _ origin]

theorem product : (dats m 0 c).arrAt 2 cfg0.N
    = colCol (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2, point]
  refine (congrFun (cached_colCol (φ := .bf16) (ψ := .bf16) _ _ _ _) y).trans
    (colCol_of (fun p => entry (V_main_arg0 m c) rfl ?_) (fun p => entry (V_main_arg1 m c) rfl ?_))
  · blk_ext [index_0, index_2]
  · blk_ext [index_1, index_2]

end Cert.Kernel37Ideal.Hand

namespace Cert.Proof

attribute [local instance] Cert.Kernel23.Gen.facts Cert.Kernel23Ideal.Gen.facts Cert.Reference23Ideal.Gen.facts
  Cert.Kernel24.Gen.facts Cert.Kernel24Ideal.Gen.facts Cert.Reference24Ideal.Gen.facts
  Cert.Kernel25.Gen.facts Cert.Kernel25Ideal.Gen.facts Cert.Reference25Ideal.Gen.facts
  Cert.Kernel35.Gen.facts Cert.Kernel35Ideal.Gen.facts Cert.Reference35Ideal.Gen.facts
  Cert.Kernel36.Gen.facts Cert.Kernel36Ideal.Gen.facts Cert.Reference36Ideal.Gen.facts
  Cert.Kernel37.Gen.facts Cert.Kernel37Ideal.Gen.facts Cert.Reference37Ideal.Gen.facts

theorem frame_kernel23 : Cert.quiescent_Kernel23 := fun m ρ _ => Cert.Kernel23.Gen.frame m ρ
theorem frame_ideal23 : Cert.quiescent_Kernel23Ideal := fun m ρ _ => Cert.Kernel23Ideal.Gen.frame m ρ
theorem frame_reference23 : Cert.quiescent_Reference23Ideal := fun m ρ _ => quiet (by decide) (Cert.Reference23Ideal.Value.run m ρ)
theorem value23 : Cert.algebraic_Kernel23Ideal_Reference23Ideal := fun m ρ m' ρ' _ same =>
  ⟨_, renamed (Cert.Kernel23Ideal.Value.run_blocks m ρ) (Cert.Kernel23Ideal.Hand.product m), renamed (Cert.Reference23Ideal.Value.run m' ρ') fun c => by
    rw [(same c).1, (same c).2]
    exact host_rowCol (φ := .f32) (ψ := .f32) _ _⟩

theorem frame_kernel24 : Cert.quiescent_Kernel24 := fun m ρ _ => Cert.Kernel24.Gen.frame m ρ
theorem frame_ideal24 : Cert.quiescent_Kernel24Ideal := fun m ρ _ => Cert.Kernel24Ideal.Gen.frame m ρ
theorem frame_reference24 : Cert.quiescent_Reference24Ideal := fun m ρ _ => quiet (by decide) (Cert.Reference24Ideal.Value.run m ρ)
theorem value24 : Cert.algebraic_Kernel24Ideal_Reference24Ideal := fun m ρ m' ρ' _ same =>
  ⟨_, renamed (Cert.Kernel24Ideal.Value.run_blocks m ρ) (Cert.Kernel24Ideal.Hand.product m), renamed (Cert.Reference24Ideal.Value.run m' ρ') fun c => by
    rw [(same c).1, (same c).2]
    exact host_rowRow (φ := .f32) (ψ := .f32) _ _⟩

theorem frame_kernel25 : Cert.quiescent_Kernel25 := fun m ρ _ => Cert.Kernel25.Gen.frame m ρ
theorem frame_ideal25 : Cert.quiescent_Kernel25Ideal := fun m ρ _ => Cert.Kernel25Ideal.Gen.frame m ρ
theorem frame_reference25 : Cert.quiescent_Reference25Ideal := fun m ρ _ => quiet (by decide) (Cert.Reference25Ideal.Value.run m ρ)
theorem value25 : Cert.algebraic_Kernel25Ideal_Reference25Ideal := fun m ρ m' ρ' _ same =>
  ⟨_, renamed (Cert.Kernel25Ideal.Value.run_blocks m ρ) (Cert.Kernel25Ideal.Hand.product m), renamed (Cert.Reference25Ideal.Value.run m' ρ') fun c => by
    rw [(same c).1, (same c).2]
    exact host_colCol (φ := .f32) (ψ := .f32) _ _ _ _⟩

theorem frame_kernel35 : Cert.quiescent_Kernel35 := fun m ρ _ => Cert.Kernel35.Gen.frame m ρ
theorem frame_ideal35 : Cert.quiescent_Kernel35Ideal := fun m ρ _ => Cert.Kernel35Ideal.Gen.frame m ρ
theorem frame_reference35 : Cert.quiescent_Reference35Ideal := fun m ρ _ => quiet (by decide) (Cert.Reference35Ideal.Value.run m ρ)
theorem value35 : Cert.algebraic_Kernel35Ideal_Reference35Ideal := fun m ρ m' ρ' _ same =>
  ⟨_, renamed (Cert.Kernel35Ideal.Value.run_blocks m ρ) (Cert.Kernel35Ideal.Hand.product m), renamed (Cert.Reference35Ideal.Value.run m' ρ') fun c => by
    rw [(same c).1, (same c).2]
    exact host_rowCol (φ := .f32) (ψ := .f32) _ _⟩

theorem frame_kernel36 : Cert.quiescent_Kernel36 := fun m ρ _ => Cert.Kernel36.Gen.frame m ρ
theorem frame_ideal36 : Cert.quiescent_Kernel36Ideal := fun m ρ _ => Cert.Kernel36Ideal.Gen.frame m ρ
theorem frame_reference36 : Cert.quiescent_Reference36Ideal := fun m ρ _ => quiet (by decide) (Cert.Reference36Ideal.Value.run m ρ)
theorem value36 : Cert.algebraic_Kernel36Ideal_Reference36Ideal := fun m ρ m' ρ' _ same =>
  ⟨_, renamed (Cert.Kernel36Ideal.Value.run_blocks m ρ) (Cert.Kernel36Ideal.Hand.product m), renamed (Cert.Reference36Ideal.Value.run m' ρ') fun c => by
    rw [(same c).1, (same c).2]
    exact host_rowRow (φ := .f32) (ψ := .f32) _ _⟩

theorem frame_kernel37 : Cert.quiescent_Kernel37 := fun m ρ _ => Cert.Kernel37.Gen.frame m ρ
theorem frame_ideal37 : Cert.quiescent_Kernel37Ideal := fun m ρ _ => Cert.Kernel37Ideal.Gen.frame m ρ
theorem frame_reference37 : Cert.quiescent_Reference37Ideal := fun m ρ _ => quiet (by decide) (Cert.Reference37Ideal.Value.run m ρ)
theorem value37 : Cert.algebraic_Kernel37Ideal_Reference37Ideal := fun m ρ m' ρ' _ same =>
  ⟨_, renamed (Cert.Kernel37Ideal.Value.run_blocks m ρ) (Cert.Kernel37Ideal.Hand.product m), renamed (Cert.Reference37Ideal.Value.run m' ρ') fun c => by
    rw [(same c).1, (same c).2]
    exact host_colCol (φ := .f32) (ψ := .f32) _ _ _ _⟩

end Cert.Proof

end
-- ==== Proof.AttentionOutput.lean ====
module

public import proofs.«01_k».proof.Defs
public import proofs.«01_k».proof.Proof.Product
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Value
public import proofs.«01_k».proof.Proof.Gen.Reference28Ideal.Run

/-! The latent attention's output projection (program 26), the gradient of its input (27) and of its weight (28). -/

@[expose] public section

set_option maxRecDepth 16384

noncomputable section

open Idealize.ShloMosaic Idealize.ShloMosaic.TcCoe Idealize.SL.Sem Cert.Product

namespace Cert.Kernel26Ideal.Hand

open Cert.Kernel26Ideal.Gen

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem product : (dats m 0 c).arrAt 2 cfg0.N
    = rowCol (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_rowCol (φ := .bf16) (ψ := .bf16) _ _) y).trans
    (rowCol_of (fun p => entry (V_main_arg0 m c) rfl ?_) (fun p => entry (V_main_arg1 m c) rfl ?_))
  · blk_ext [index_0, index_2]
  · blk_ext [index_1, index_2]

end Cert.Kernel26Ideal.Hand

namespace Cert.Kernel27Ideal.Hand

open Cert.Kernel27Ideal.Gen

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem product : (dats m 0 c).arrAt 2 cfg0.N
    = rowRow (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_rowRow (φ := .bf16) (ψ := .bf16) _ _) y).trans
    (rowRow_of (fun p => entry (V_main_arg0 m c) rfl ?_) (fun p => entry (V_main_arg1 m c) rfl ?_))
  · blk_ext [index_0, index_2]
  · blk_ext [index_1, index_2]

end Cert.Kernel27Ideal.Hand

namespace Cert.Kernel28Ideal.Hand

open Cert.Kernel28Ideal.Gen

theorem index_0 : ∀ t : Fin cfg0.N, win0_0.index t = ![0, 0] := (by decide +kernel : ∀ t : Fin grid0.N, _)
theorem index_1 : ∀ t : Fin cfg0.N, win0_1.index t = ![0, t.val] := (by decide +kernel : ∀ t : Fin grid0.N, _)
theorem index_2 : ∀ t : Fin cfg0.N, win0_2.index t = ![0, t.val] := (by decide +kernel : ∀ t : Fin grid0.N, _)

variable (m : (ℓ : Loc nD τ sig) → Buf (Elt Ideal) ℓ) (c : Dev nD)

theorem first_block (t : Fin cfg0.N) : iblk m c 0 t = (m ((c.tc : Thread nD τ).loc main_arg0) : FVec Ideal S4096x1024 .bf16) :=
  funext fun y => entry (V_main_arg0 m c) rfl (by blk_ext [index_0])

/-- Each point's tile, and the transposed factor that it leaves in the scratch. -/
theorem points (n : ℕ) (h : n < cfg0.N) : outsAt0 m c n h
    = (k0_pay2 (k0_pay1 (m ((c.tc : Thread nD τ).loc main_arg0))) (iblk m c 1 ⟨n, h⟩), k0_pay1 (F := Ideal) (m ((c.tc : Thread nD τ).loc main_arg0))) :=
  carried (outsAt0 m c) (fun t s => k0_pay2 s (iblk m c 1 t)) _
    (fun t h => by
      rw [outsAt0_A m c t h, ← first_block m c t]
      unfold out0_A_2 sout0_A_0 kernelRun0_A
      dsimp only
      sl_unfold_words
      rw [stored_at (S := S1024x512) origin, stored_at (S := S1024x4096) origin, loaded_at (S := S4096x1024) origin, loaded_at (S := S4096x512) origin,
        View.readCov_unit_zero (S := S1024x4096) _ origin])
    (fun t h => by
      rw [outsAt0_B m c t h]
      unfold out0_B_2 sout0_B_0 kernelRun0_B
      dsimp only
      rw [stored_at (S := S1024x512) origin, loaded_at (S := S4096x512) origin]
      exact congrArg (fun s => (k0_pay2 s _, _)) (loaded_at (S := S1024x4096) origin scM0_0 (Memref.isWhole_whole _) _ _)) n h

theorem product : (dats m 0 c).arrAt 2 cfg0.N
    = colCol (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2, points]
  refine (congrFun (cached_colCol (φ := .bf16) (ψ := .bf16) _ _ _ _) y).trans
    (colCol_of (fun p => congrArg (m ((c.tc : Thread nD τ).loc main_arg0)) ?_) (fun p => entry (V_main_arg1 m c) rfl ?_))
  · blk_ext [index_2]
  · blk_ext [index_1, index_2]

end Cert.Kernel28Ideal.Hand

namespace Cert.Proof

attribute [local instance] Cert.Kernel26.Gen.facts Cert.Kernel26Ideal.Gen.facts Cert.Reference26Ideal.Gen.facts
  Cert.Kernel27.Gen.facts Cert.Kernel27Ideal.Gen.facts Cert.Reference27Ideal.Gen.facts
  Cert.Kernel28.Gen.facts Cert.Kernel28Ideal.Gen.facts Cert.Reference28Ideal.Gen.facts

theorem frame_kernel26 : Cert.quiescent_Kernel26 := fun m ρ _ => Cert.Kernel26.Gen.frame m ρ
theorem frame_ideal26 : Cert.quiescent_Kernel26Ideal := fun m ρ _ => Cert.Kernel26Ideal.Gen.frame m ρ
theorem frame_reference26 : Cert.quiescent_Reference26Ideal := fun m ρ _ => quiet (by decide) (Cert.Reference26Ideal.Value.run m ρ)
theorem value26 : Cert.algebraic_Kernel26Ideal_Reference26Ideal := fun m ρ m' ρ' _ same =>
  ⟨_, renamed (Cert.Kernel26Ideal.Value.run_blocks m ρ) (Cert.Kernel26Ideal.Hand.product m), renamed (Cert.Reference26Ideal.Value.run m' ρ') fun c => by
    rw [(same c).1, (same c).2]
    exact host_rowCol (φ := .f32) (ψ := .f32) _ _⟩

theorem frame_kernel27 : Cert.quiescent_Kernel27 := fun m ρ _ => Cert.Kernel27.Gen.frame m ρ
theorem frame_ideal27 : Cert.quiescent_Kernel27Ideal := fun m ρ _ => Cert.Kernel27Ideal.Gen.frame m ρ
theorem frame_reference27 : Cert.quiescent_Reference27Ideal := fun m ρ _ => quiet (by decide) (Cert.Reference27Ideal.Value.run m ρ)
theorem value27 : Cert.algebraic_Kernel27Ideal_Reference27Ideal := fun m ρ m' ρ' _ same =>
  ⟨_, renamed (Cert.Kernel27Ideal.Value.run_blocks m ρ) (Cert.Kernel27Ideal.Hand.product m), renamed (Cert.Reference27Ideal.Value.run m' ρ') fun c => by
    rw [(same c).1, (same c).2]
    exact host_rowRow (φ := .f32) (ψ := .f32) _ _⟩

theorem frame_kernel28 : Cert.quiescent_Kernel28 := fun m ρ _ => Cert.Kernel28.Gen.frame m ρ
theorem frame_ideal28 : Cert.quiescent_Kernel28Ideal := fun m ρ _ => Cert.Kernel28Ideal.Gen.frame m ρ
theorem frame_reference28 : Cert.quiescent_Reference28Ideal := fun m ρ _ => quiet (by decide) (Cert.Reference28Ideal.Value.run m ρ)
theorem value28 : Cert.algebraic_Kernel28Ideal_Reference28Ideal := fun m ρ m' ρ' _ same =>
  ⟨_, renamed (Cert.Kernel28Ideal.Value.run_blocks m ρ) (Cert.Kernel28Ideal.Hand.product m), renamed (Cert.Reference28Ideal.Value.run m' ρ') fun c => by
    rw [(same c).1, (same c).2]
    exact host_colCol (φ := .f32) (ψ := .f32) _ _ _ _⟩

end Cert.Proof

end
-- ==== Proof.Memory.lean ====
module

public import proofs.«01_k».proof.Defs
public import proofs.«01_k».proof.Proof.Product
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Kernel33.Frame
public import proofs.«01_k».proof.Proof.Gen.Kernel33Ideal.Value
public import proofs.«01_k».proof.Proof.Gen.Reference33Ideal.Run
public import proofs.«01_k».proof.Proof.Gen.Kernel34.Frame
public import proofs.«01_k».proof.Proof.Gen.Kernel34Ideal.Value
public import proofs.«01_k».proof.Proof.Gen.Reference34Ideal.Run

/-! The memory attention's queries (program 29), the gradients of their input (30) and weight (31); its output projection
with the residual (32), the gradients of that one's input (33) and weight (34). -/

@[expose] public section

set_option maxRecDepth 16384

noncomputable section

open Idealize.ShloMosaic Idealize.ShloMosaic.TcCoe Idealize.SL.Sem Cert.Product

namespace Cert.Kernel29Ideal.Hand

open Cert.Kernel29Ideal.Gen

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem product : (dats m 0 c).arrAt 2 cfg0.N
    = rowCol (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_rowCol (φ := .bf16) (ψ := .bf16) _ _) y).trans
    (rowCol_of (fun p => entry (V_main_arg0 m c) rfl ?_) (fun p => entry (V_main_arg1 m c) rfl ?_))
  · blk_ext [index_0, index_2]
  · blk_ext [index_1, index_2]

end Cert.Kernel29Ideal.Hand

namespace Cert.Kernel30Ideal.Hand

open Cert.Kernel30Ideal.Gen

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem product : (dats m 0 c).arrAt 2 cfg0.N
    = rowRow (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_rowRow (φ := .bf16) (ψ := .bf16) _ _) y).trans
    (rowRow_of (fun p => entry (V_main_arg0 m c) rfl ?_) (fun p => entry (V_main_arg1 m c) rfl ?_))
  · blk_ext [index_0, index_2]
  · blk_ext [index_1, index_2]

end Cert.Kernel30Ideal.Hand

namespace Cert.Kernel31Ideal.Hand

open Cert.Kernel31Ideal.Gen

theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)

variable (m : (ℓ : Loc nD τ sig) → Buf (Elt Ideal) ℓ) (c : Dev nD)

/-- The one point's tile, by way of the scratch. -/
theorem point (t : Fin cfg0.N) : outsAt0 m c t = k0_pay2 (k0_pay1 (iblk m c 0 t)) (iblk m c 1 t) := by
  unfold outsAt0 out0_A_2 kernelRun0_A
  dsimp only
  sl_unfold_words
  rw [stored_at (S := S1024x512) origin, loaded_at (S := S4096x1024) origin, loaded_at (S := S4096x512) origin,
    View.readCov_unit_zero (S := S1024x4096) _ origin]

theorem product : (dats m 0 c).arrAt 2 cfg0.N
    = colCol (φ := .bf16) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2, point]
  refine (congrFun (cached_colCol (φ := .bf16) (ψ := .bf16) _ _ _ _) y).trans
    (colCol_of (fun p => entry (V_main_arg0 m c) rfl ?_) (fun p => entry (V_main_arg1 m c) rfl ?_))
  · blk_ext [index_0, index_2]
  · blk_ext [index_1, index_2]

end Cert.Kernel31Ideal.Hand

namespace Cert.Kernel32Ideal.Hand

open Cert.Kernel32Ideal.Gen

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)

variable (m : (ℓ : Loc nD τ sig) → Buf (Elt Ideal) ℓ) (c : Dev nD)

theorem product : (dats m 0 c).arrAt 3 cfg0.N
    = sum (rowCol (φ := .bf16) (ψ := .bf16) .f32 (m ((c.tc : Thread nD τ).loc main_arg0)) (m ((c.tc : Thread nD τ).loc main_arg1)))
      (m ((c.tc : Thread nD τ).loc main_arg2)) := by
  refine (dats m 0 c).arrAt_eq_of_covers 3 _ (by decide +kernel) fun t hf y => ?_
  blk_simp
  rw [after0_3]
  unfold out0_3
  rw [View.canon_unit_zero origin, View.ld_unit_zero origin, View.ld_unit_zero origin, View.ld_unit_zero origin]
  refine (congrFun (matmul_sum (φ := .bf16) (ψ := .bf16) _ _ _) y).trans (sum_of
    (rowCol_of (fun p => entry (V_main_arg0 m c) rfl ?_) (fun p => entry (V_main_arg1 m c) rfl ?_)) (entry (V_main_arg2 m c) rfl ?_))
  · blk_ext [index_0, index_3]
  · blk_ext [index_1, index_3]
  · blk_ext [index_2, index_3]

end Cert.Kernel32Ideal.Hand

namespace Cert.Kernel33Ideal.Hand

open Cert.Kernel33Ideal.Gen

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

theorem product : (dats m 0 c).arrAt 2 cfg0.N
    = rowRow (φ := .f32) (ψ := .bf16) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  rw [View.canon_unit_zero origin, View.ld_unit_zero origin, View.ld_unit_zero origin]
  refine (congrFun (matmul_rowRow (φ := .bf16) (ψ := .bf16) _ _) y).trans
    (rowRow_of (fun p => entry (V_main_arg0 m c) rfl ?_) (fun p => entry (V_main_arg1 m c) rfl ?_))
  · blk_ext [index_0, index_2]
  · blk_ext [index_1, index_2]

end Cert.Kernel33Ideal.Hand

namespace Cert.Kernel34Ideal.Hand

open Cert.Kernel34Ideal.Gen

theorem index_0 : ∀ t : Fin cfg0.N, win0_0.index t = ![0, 0] := (by decide +kernel : ∀ t : Fin grid0.N, _)
theorem index_1 : ∀ t : Fin cfg0.N, win0_1.index t = ![0, t.val] := (by decide +kernel : ∀ t : Fin grid0.N, _)
theorem index_2 : ∀ t : Fin cfg0.N, win0_2.index t = ![0, t.val] := (by decide +kernel : ∀ t : Fin grid0.N, _)

variable (m : (ℓ : Loc nD τ sig) → Buf (Elt Ideal) ℓ) (c : Dev nD)

theorem first_block (t : Fin cfg0.N) : iblk m c 0 t = (m ((c.tc : Thread nD τ).loc main_arg0) : FVec Ideal S4096x512 .bf16) :=
  funext fun y => entry (V_main_arg0 m c) rfl (by blk_ext [index_0])

/-- Each point's tile, and the transposed factor that it leaves in the scratch. -/
theorem points (n : ℕ) (h : n < cfg0.N) : outsAt0 m c n h
    = (k0_pay2 (k0_pay1 (m ((c.tc : Thread nD τ).loc main_arg0))) (iblk m c 1 ⟨n, h⟩), k0_pay1 (F := Ideal) (m ((c.tc : Thread nD τ).loc main_arg0))) :=
  carried (outsAt0 m c) (fun t s => k0_pay2 s (iblk m c 1 t)) _
    (fun t h => by
      rw [outsAt0_A m c t h, ← first_block m c t]
      unfold out0_A_2 sout0_A_0 kernelRun0_A
      dsimp only
      sl_unfold_words
      rw [stored_at (S := S512x512) origin, stored_at (S := S512x4096) origin]
      simp only [loaded_at (S := S4096x512) origin, View.readCov_unit_zero (S := S512x4096) _ origin])
    (fun t h => by
      rw [outsAt0_B m c t h]
      unfold out0_B_2 sout0_B_0 kernelRun0_B
      dsimp only
      rw [stored_at (S := S512x512) origin, loaded_at (S := S4096x512) origin]
      exact congrArg (fun s => (k0_pay2 s _, _)) (loaded_at (S := S512x4096) origin scM0_0 (Memref.isWhole_whole _) _ _)) n h

theorem product : (dats m 0 c).arrAt 2 cfg0.N
    = colCol (φ := .bf16) (ψ := .f32) .bf16 (m ((c.tc : Thread nD τ).loc main_arg0)) (m ((c.tc : Thread nD τ).loc main_arg1)) := by
  refine (dats m 0 c).arrAt_eq_of_covers 2 _ (by decide +kernel) fun t hf y => ?_
  blk_simp
  rw [after0_2, points]
  refine (congrFun (cached_colCol (φ := .bf16) (ψ := .bf16) _ _ _ _) y).trans
    (colCol_of (fun p => congrArg (m ((c.tc : Thread nD τ).loc main_arg0)) ?_) (fun p => entry (V_main_arg1 m c) rfl ?_))
  · blk_ext [index_2]
  · blk_ext [index_1, index_2]

end Cert.Kernel34Ideal.Hand

namespace Cert.Proof

attribute [local instance] Cert.Kernel29.Gen.facts Cert.Kernel29Ideal.Gen.facts Cert.Reference29Ideal.Gen.facts
  Cert.Kernel30.Gen.facts Cert.Kernel30Ideal.Gen.facts Cert.Reference30Ideal.Gen.facts
  Cert.Kernel31.Gen.facts Cert.Kernel31Ideal.Gen.facts Cert.Reference31Ideal.Gen.facts
  Cert.Kernel32.Gen.facts Cert.Kernel32Ideal.Gen.facts Cert.Reference32Ideal.Gen.facts
  Cert.Kernel33.Gen.facts Cert.Kernel33Ideal.Gen.facts Cert.Reference33Ideal.Gen.facts
  Cert.Kernel34.Gen.facts Cert.Kernel34Ideal.Gen.facts Cert.Reference34Ideal.Gen.facts

theorem frame_kernel29 : Cert.quiescent_Kernel29 := fun m ρ _ => Cert.Kernel29.Gen.frame m ρ
theorem frame_ideal29 : Cert.quiescent_Kernel29Ideal := fun m ρ _ => Cert.Kernel29Ideal.Gen.frame m ρ
theorem frame_reference29 : Cert.quiescent_Reference29Ideal := fun m ρ _ => quiet (by decide) (Cert.Reference29Ideal.Value.run m ρ)
theorem value29 : Cert.algebraic_Kernel29Ideal_Reference29Ideal := fun m ρ m' ρ' _ same =>
  ⟨_, renamed (Cert.Kernel29Ideal.Value.run_blocks m ρ) (Cert.Kernel29Ideal.Hand.product m), renamed (Cert.Reference29Ideal.Value.run m' ρ') fun c => by
    rw [(same c).1, (same c).2]
    exact host_rowCol (φ := .f32) (ψ := .f32) _ _⟩

theorem frame_kernel30 : Cert.quiescent_Kernel30 := fun m ρ _ => Cert.Kernel30.Gen.frame m ρ
theorem frame_ideal30 : Cert.quiescent_Kernel30Ideal := fun m ρ _ => Cert.Kernel30Ideal.Gen.frame m ρ
theorem frame_reference30 : Cert.quiescent_Reference30Ideal := fun m ρ _ => quiet (by decide) (Cert.Reference30Ideal.Value.run m ρ)
theorem value30 : Cert.algebraic_Kernel30Ideal_Reference30Ideal := fun m ρ m' ρ' _ same =>
  ⟨_, renamed (Cert.Kernel30Ideal.Value.run_blocks m ρ) (Cert.Kernel30Ideal.Hand.product m), renamed (Cert.Reference30Ideal.Value.run m' ρ') fun c => by
    rw [(same c).1, (same c).2]
    exact host_rowRow (φ := .f32) (ψ := .f32) _ _⟩

theorem frame_kernel31 : Cert.quiescent_Kernel31 := fun m ρ _ => Cert.Kernel31.Gen.frame m ρ
theorem frame_ideal31 : Cert.quiescent_Kernel31Ideal := fun m ρ _ => Cert.Kernel31Ideal.Gen.frame m ρ
theorem frame_reference31 : Cert.quiescent_Reference31Ideal := fun m ρ _ => quiet (by decide) (Cert.Reference31Ideal.Value.run m ρ)
theorem value31 : Cert.algebraic_Kernel31Ideal_Reference31Ideal := fun m ρ m' ρ' _ same =>
  ⟨_, renamed (Cert.Kernel31Ideal.Value.run_blocks m ρ) (Cert.Kernel31Ideal.Hand.product m), renamed (Cert.Reference31Ideal.Value.run m' ρ') fun c => by
    rw [(same c).1, (same c).2]
    exact host_colCol (φ := .f32) (ψ := .f32) _ _ _ _⟩

theorem frame_kernel32 : Cert.quiescent_Kernel32 := fun m ρ _ => Cert.Kernel32.Gen.frame m ρ
theorem frame_ideal32 : Cert.quiescent_Kernel32Ideal := fun m ρ _ => Cert.Kernel32Ideal.Gen.frame m ρ
theorem frame_reference32 : Cert.quiescent_Reference32Ideal := fun m ρ _ => quiet (by decide) (Cert.Reference32Ideal.Value.run m ρ)
theorem value32 : Cert.algebraic_Kernel32Ideal_Reference32Ideal := fun m ρ m' ρ' _ same =>
  ⟨_, renamed (Cert.Kernel32Ideal.Value.run_blocks m ρ) (Cert.Kernel32Ideal.Hand.product m), renamed (Cert.Reference32Ideal.Value.run m' ρ') fun c => by
    rw [(same c).1, (same c).2.1, (same c).2.2]
    exact host_sum (φ := .f32) (ψ := .f32) _ _ _⟩

theorem frame_kernel33 : Cert.quiescent_Kernel33 := fun m ρ _ => Cert.Kernel33.Gen.frame m ρ
theorem frame_ideal33 : Cert.quiescent_Kernel33Ideal := fun m ρ _ => Cert.Kernel33Ideal.Gen.frame m ρ
theorem frame_reference33 : Cert.quiescent_Reference33Ideal := fun m ρ _ => quiet (by decide) (Cert.Reference33Ideal.Value.run m ρ)
theorem value33 : Cert.algebraic_Kernel33Ideal_Reference33Ideal := fun m ρ m' ρ' _ same =>
  ⟨_, renamed (Cert.Kernel33Ideal.Value.run_blocks m ρ) (Cert.Kernel33Ideal.Hand.product m), renamed (Cert.Reference33Ideal.Value.run m' ρ') fun c => by
    rw [(same c).1, (same c).2]
    exact host_rowRow (φ := .f32) (ψ := .f32) _ _⟩

theorem frame_kernel34 : Cert.quiescent_Kernel34 := fun m ρ _ => Cert.Kernel34.Gen.frame m ρ
theorem frame_ideal34 : Cert.quiescent_Kernel34Ideal := fun m ρ _ => Cert.Kernel34Ideal.Gen.frame m ρ
theorem frame_reference34 : Cert.quiescent_Reference34Ideal := fun m ρ _ => quiet (by decide) (Cert.Reference34Ideal.Value.run m ρ)
theorem value34 : Cert.algebraic_Kernel34Ideal_Reference34Ideal := fun m ρ m' ρ' _ same =>
  ⟨_, renamed (Cert.Kernel34Ideal.Value.run_blocks m ρ) (Cert.Kernel34Ideal.Hand.product m), renamed (Cert.Reference34Ideal.Value.run m' ρ') fun c => by
    rw [(same c).1, (same c).2]
    exact host_colCol (φ := .f32) (ψ := .f32) _ _ _ _⟩

end Cert.Proof

end
-- ==== Proof.lean ====
/- The certificate: the frames of every kernel and reference, the attention's two named constants and its three
   gradients, and what each product call computes, behind the witnesses of the programs' stated facts. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Frames
public import proofs.«01_k».proof.Proof.Value
public import proofs.«01_k».proof.Proof.Up
public import proofs.«01_k».proof.Proof.Down
public import proofs.«01_k».proof.Proof.Gates
public import proofs.«01_k».proof.Proof.Recurrence
public import proofs.«01_k».proof.Proof.Latent
public import proofs.«01_k».proof.Proof.StateSpace
public import proofs.«01_k».proof.Proof.Output
public import proofs.«01_k».proof.Proof.FromLatent
public import proofs.«01_k».proof.Proof.AttentionOutput
public import proofs.«01_k».proof.Proof.Memory

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Pre_finite.Gen.facts,
    frame_kernel, frame_ideal, fun m ρ _ => frame_ideal m ρ trivial, frame_reference, fun m ρ _ => frame_reference m ρ trivial,
    frame_kernel2, frame_ideal2, frame_reference2, frame_kernel3, frame_ideal3, frame_reference3,
    frame_kernel4, frame_ideal4, frame_reference4, frame_kernel5, frame_ideal5, frame_reference5,
    frame_kernel6, frame_ideal6, frame_reference6, frame_kernel7, frame_ideal7, frame_reference7,
    frame_kernel8, frame_ideal8, frame_reference8, frame_kernel9, frame_ideal9, frame_reference9,
    frame_kernel10, frame_ideal10, frame_reference10, frame_kernel11, frame_ideal11, frame_reference11,
    frame_kernel12, frame_ideal12, frame_reference12, frame_kernel13, frame_ideal13, frame_reference13,
    frame_kernel14, frame_ideal14, frame_reference14, frame_kernel15, frame_ideal15, frame_reference15,
    frame_kernel16, frame_ideal16, frame_reference16, frame_kernel17, frame_ideal17, frame_reference17,
    frame_kernel18, frame_ideal18, frame_reference18, frame_kernel19, frame_ideal19, frame_reference19,
    frame_kernel20, frame_ideal20, frame_reference20, frame_kernel21, frame_ideal21, frame_reference21,
    frame_kernel22, frame_ideal22, frame_reference22, frame_kernel23, frame_ideal23, frame_reference23,
    frame_kernel24, frame_ideal24, frame_reference24, frame_kernel25, frame_ideal25, frame_reference25,
    frame_kernel26, frame_ideal26, frame_reference26, frame_kernel27, frame_ideal27, frame_reference27,
    frame_kernel28, frame_ideal28, frame_reference28, frame_kernel29, frame_ideal29, frame_reference29,
    frame_kernel30, frame_ideal30, frame_reference30, frame_kernel31, frame_ideal31, frame_reference31,
    frame_kernel32, frame_ideal32, frame_reference32, frame_kernel33, frame_ideal33, frame_reference33,
    frame_kernel34, frame_ideal34, frame_reference34, frame_kernel35, frame_ideal35, frame_reference35,
    frame_kernel36, frame_ideal36, frame_reference36, frame_kernel37, frame_ideal37, frame_reference37,
    preserved, gradients, trivial, value2, trivial, value3, trivial, value4, trivial, value5, trivial, value6, trivial, value7,
    trivial, value8, trivial, value9, trivial, value10, trivial, value11, trivial, value12, trivial, value13, trivial, value14,
    trivial, value15, trivial, value16, trivial, value17, trivial, value18, trivial, value19, trivial, value20, trivial, value21,
    trivial, value22, trivial, value23, trivial, value24, trivial, value25, trivial, value26, trivial, value27, trivial, value28,
    trivial, value29, trivial, value30, trivial, value31, trivial, value32, trivial, value33, trivial, value34, trivial, value35,
    trivial, value36, trivial, value37⟩

end Cert.Proof

end
